-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2144 : Shape := ⟨2, ![16384, 2144]⟩
abbrev S2080 : Shape := ⟨1, ![2080]⟩
abbrev S16384x64 : Shape := ⟨2, ![16384, 64]⟩
abbrev S16384x64x64 : Shape := ⟨3, ![16384, 64, 64]⟩
abbrev S4x2144 : Shape := ⟨2, ![4, 2144]⟩
abbrev S4x64 : Shape := ⟨2, ![4, 64]⟩
abbrev S4x64x64 : Shape := ⟨3, ![4, 64, 64]⟩
abbrev S_ : Shape := ⟨0, ![]⟩
abbrev S16 : Shape := ⟨1, ![16]⟩
abbrev S1x1x16 : Shape := ⟨3, ![1, 1, 16]⟩
abbrev S1x16 : Shape := ⟨2, ![1, 16]⟩

abbrev nBuf : Table → Nat
  | .hbm => 5
  | .local .scVector .vmem => 8
  | _ => 0

abbrev bufTy : (tb : Table) → Fin (nBuf tb) → BufTy
  | .hbm, ⟨0, _⟩ => ⟨S16384x2144, .f32⟩
  | .hbm, ⟨1, _⟩ => ⟨S2080, .i32⟩
  | .hbm, ⟨2, _⟩ => ⟨S2080, .i32⟩
  | .hbm, ⟨3, _⟩ => ⟨S16384x64, .f32⟩
  | .hbm, ⟨4, _⟩ => ⟨S16384x64x64, .f32⟩
  | .local .scVector .vmem, ⟨0, _⟩ => ⟨S4x2144, .f32⟩
  | .local .scVector .vmem, ⟨1, _⟩ => ⟨S4x2144, .f32⟩
  | .local .scVector .vmem, ⟨2, _⟩ => ⟨S2080, .i32⟩
  | .local .scVector .vmem, ⟨3, _⟩ => ⟨S2080, .i32⟩
  | .local .scVector .vmem, ⟨4, _⟩ => ⟨S4x64, .f32⟩
  | .local .scVector .vmem, ⟨5, _⟩ => ⟨S4x64, .f32⟩
  | .local .scVector .vmem, ⟨6, _⟩ => ⟨S4x64x64, .f32⟩
  | .local .scVector .vmem, ⟨7, _⟩ => ⟨S4x64x64, .f32⟩
  | _, _ => ⟨S16384x2144, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_c_scv : Ref sig .scVector := ⟨.hbm, 1, rfl⟩
abbrev main_c_0_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off1 (k0_t1 : Fin k0_t1_loop.trips) : Fin 3 → Nat :=
  let c0_i32_41 : BitVec 32 := 0#32
  let v27 : Index := Scalar.indexCast c0_i32_41
  let c0_i32_0 : BitVec 32 := 0#32
  let c1_i32 : BitVec 32 := 1#32
  let arg21 : BitVec 32 := Scf.iv c0_i32_0 c1_i32 k0_t1
  let v28 : Index := Scalar.indexCast arg21
  let c0 : Index := 0#32
  ![0, v28.toNat, 0]
def k0_off2 (k0_t1 : Fin k0_t1_loop.trips) : Fin 3 → Nat :=
  let c0_i32_44 : BitVec 32 := 0#32
  let v33 : Index := Scalar.indexCast c0_i32_44
  let c0_i32_0 : BitVec 32 := 0#32
  let c1_i32 : BitVec 32 := 1#32
  let arg21 : BitVec 32 := Scf.iv c0_i32_0 c1_i32 k0_t1
  let v34 : Index := Scalar.indexCast arg21
  let c16 : Index := 16#32
  ![0, v34.toNat, 16]
def k0_off3 (k0_t1 : Fin k0_t1_loop.trips) : Fin 3 → Nat :=
  let c0_i32_47 : BitVec 32 := 0#32
  let v39 : Index := Scalar.indexCast c0_i32_47
  let c0_i32_0 : BitVec 32 := 0#32
  let c1_i32 : BitVec 32 := 1#32
  let arg21 : BitVec 32 := Scf.iv c0_i32_0 c1_i32 k0_t1
  let v40 : Index := Scalar.indexCast arg21
  let c32 : Index := 32#32
  ![0, v40.toNat, 32]
def k0_off4 (k0_t1 : Fin k0_t1_loop.trips) : Fin 3 → Nat :=
  let c0_i32_50 : BitVec 32 := 0#32
  let v45 : Index := Scalar.indexCast c0_i32_50
  let c0_i32_0 : BitVec 32 := 0#32
  let c1_i32 : BitVec 32 := 1#32
  let arg21 : BitVec 32 := Scf.iv c0_i32_0 c1_i32 k0_t1
  let v46 : Index := Scalar.indexCast arg21
  let c48 : Index := 48#32
  ![0, v46.toNat, 48]
@[reducible] def k0_t2_loop : Scf.Loop 32 :=
  let c0_i32_3 : BitVec 32 := 0#32
  let c64_i32_4 : BitVec 32 := 64#32
  let v5 : BitVec 32 := Scalar.addi c0_i32_3 c64_i32_4
  let c1_i32_5 : BitVec 32 := 1#32
  ⟨c0_i32_3, v5, c1_i32_5⟩
def k0_off5 (k0_t2 : Fin k0_t2_loop.trips) : Fin 3 → Nat :=
  let c1_i32_41 : BitVec 32 := 1#32
  let v27 : Index := Scalar.indexCast c1_i32_41
  let c0_i32_3 : BitVec 32 := 0#32
  let c1_i32_5 : BitVec 32 := 1#32
  let arg21 : BitVec 32 := Scf.iv c0_i32_3 c1_i32_5 k0_t2
  let v28 : Index := Scalar.indexCast arg21
  let c0 : Index := 0#32
  ![1, v28.toNat, 0]
def k0_off6 (k0_t2 : Fin k0_t2_loop.trips) : Fin 3 → Nat :=
  let c1_i32_44 : BitVec 32 := 1#32
  let v33 : Index := Scalar.indexCast c1_i32_44
  let c0_i32_3 : BitVec 32 := 0#32
  let c1_i32_5 : BitVec 32 := 1#32
  let arg21 : BitVec 32 := Scf.iv c0_i32_3 c1_i32_5 k0_t2
  let v34 : Index := Scalar.indexCast arg21
  let c16 : Index := 16#32
  ![1, v34.toNat, 16]
def k0_off7 (k0_t2 : Fin k0_t2_loop.trips) : Fin 3 → Nat :=
  let c1_i32_47 : BitVec 32 := 1#32
  let v39 : Index := Scalar.indexCast c1_i32_47
  let c0_i32_3 : BitVec 32 := 0#32
  let c1_i32_5 : BitVec 32 := 1#32
  let arg21 : BitVec 32 := Scf.iv c0_i32_3 c1_i32_5 k0_t2
  let v40 : Index := Scalar.indexCast arg21
  let c32 : Index := 32#32
  ![1, v40.toNat, 32]
def k0_off8 (k0_t2 : Fin k0_t2_loop.trips) : Fin 3 → Nat :=
  let c1_i32_50 : BitVec 32 := 1#32
  let v45 : Index := Scalar.indexCast c1_i32_50
  let c0_i32_3 : BitVec 32 := 0#32
  let c1_i32_5 : BitVec 32 := 1#32
  let arg21 : BitVec 32 := Scf.iv c0_i32_3 c1_i32_5 k0_t2
  let v46 : Index := Scalar.indexCast arg21
  let c48 : Index := 48#32
  ![1, v46.toNat, 48]
@[reducible] def k0_t3_loop : Scf.Loop 32 :=
  let c0_i32_8 : BitVec 32 := 0#32
  let c64_i32_9 : BitVec 32 := 64#32
  let v6 : BitVec 32 := Scalar.addi c0_i32_8 c64_i32_9
  let c1_i32_10 : BitVec 32 := 1#32
  ⟨c0_i32_8, v6, c1_i32_10⟩
def k0_off9 (k0_t3 : Fin k0_t3_loop.trips) : Fin 3 → Nat :=
  let c2_i32_41 : BitVec 32 := 2#32
  let v27 : Index := Scalar.indexCast c2_i32_41
  let c0_i32_8 : BitVec 32 := 0#32
  let c1_i32_10 : BitVec 32 := 1#32
  let arg21 : BitVec 32 := Scf.iv c0_i32_8 c1_i32_10 k0_t3
  let v28 : Index := Scalar.indexCast arg21
  let c0 : Index := 0#32
  ![2, v28.toNat, 0]
def k0_off10 (k0_t3 : Fin k0_t3_loop.trips) : Fin 3 → Nat :=
  let c2_i32_44 : BitVec 32 := 2#32
  let v33 : Index := Scalar.indexCast c2_i32_44
  let c0_i32_8 : BitVec 32 := 0#32
  let c1_i32_10 : BitVec 32 := 1#32
  let arg21 : BitVec 32 := Scf.iv c0_i32_8 c1_i32_10 k0_t3
  let v34 : Index := Scalar.indexCast arg21
  let c16 : Index := 16#32
  ![2, v34.toNat, 16]
def k0_off11 (k0_t3 : Fin k0_t3_loop.trips) : Fin 3 → Nat :=
  let c2_i32_47 : BitVec 32 := 2#32
  let v39 : Index := Scalar.indexCast c2_i32_47
  let c0_i32_8 : BitVec 32 := 0#32
  let c1_i32_10 : BitVec 32 := 1#32
  let arg21 : BitVec 32 := Scf.iv c0_i32_8 c1_i32_10 k0_t3
  let v40 : Index := Scalar.indexCast arg21
  let c32 : Index := 32#32
  ![2, v40.toNat, 32]
def k0_off12 (k0_t3 : Fin k0_t3_loop.trips) : Fin 3 → Nat :=
  let c2_i32_50 : BitVec 32 := 2#32
  let v45 : Index := Scalar.indexCast c2_i32_50
  let c0_i32_8 : BitVec 32 := 0#32
  let c1_i32_10 : BitVec 32 := 1#32
  let arg21 : BitVec 32 := Scf.iv c0_i32_8 c1_i32_10 k0_t3
  let v46 : Index := Scalar.indexCast arg21
  let c48 : Index := 48#32
  ![2, v46.toNat, 48]
@[reducible] def k0_t4_loop : Scf.Loop 32 :=
  let c0_i32_13 : BitVec 32 := 0#32
  let c64_i32_14 : BitVec 32 := 64#32
  let v7 : BitVec 32 := Scalar.addi c0_i32_13 c64_i32_14
  let c1_i32_15 : BitVec 32 := 1#32
  ⟨c0_i32_13, v7, c1_i32_15⟩
def k0_off13 (k0_t4 : Fin k0_t4_loop.trips) : Fin 3 → Nat :=
  let c3_i32 : BitVec 32 := 3#32
  let v27 : Index := Scalar.indexCast c3_i32
  let c0_i32_13 : BitVec 32 := 0#32
  let c1_i32_15 : BitVec 32 := 1#32
  let arg21 : BitVec 32 := Scf.iv c0_i32_13 c1_i32_15 k0_t4
  let v28 : Index := Scalar.indexCast arg21
  let c0 : Index := 0#32
  ![3, v28.toNat, 0]
def k0_off14 (k0_t4 : Fin k0_t4_loop.trips) : Fin 3 → Nat :=
  let c3_i32_43 : BitVec 32 := 3#32
  let v33 : Index := Scalar.indexCast c3_i32_43
  let c0_i32_13 : BitVec 32 := 0#32
  let c1_i32_15 : BitVec 32 := 1#32
  let arg21 : BitVec 32 := Scf.iv c0_i32_13 c1_i32_15 k0_t4
  let v34 : Index := Scalar.indexCast arg21
  let c16 : Index := 16#32
  ![3, v34.toNat, 16]
def k0_off15 (k0_t4 : Fin k0_t4_loop.trips) : Fin 3 → Nat :=
  let c3_i32_46 : BitVec 32 := 3#32
  let v39 : Index := Scalar.indexCast c3_i32_46
  let c0_i32_13 : BitVec 32 := 0#32
  let c1_i32_15 : BitVec 32 := 1#32
  let arg21 : BitVec 32 := Scf.iv c0_i32_13 c1_i32_15 k0_t4
  let v40 : Index := Scalar.indexCast arg21
  let c32 : Index := 32#32
  ![3, v40.toNat, 32]
def k0_off16 (k0_t4 : Fin k0_t4_loop.trips) : Fin 3 → Nat :=
  let c3_i32_49 : BitVec 32 := 3#32
  let v45 : Index := Scalar.indexCast c3_i32_49
  let c0_i32_13 : BitVec 32 := 0#32
  let c1_i32_15 : BitVec 32 := 1#32
  let arg21 : BitVec 32 := Scf.iv c0_i32_13 c1_i32_15 k0_t4
  let v46 : Index := Scalar.indexCast arg21
  let c48 : Index := 48#32
  ![3, v46.toNat, 48]
def k0_off17 (i : grid0.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v8 : BitVec 32 := Scalar.addi v2 c0_i32_17
  let c0_i32_18 : BitVec 32 := 0#32
  ![v8.toNat, 0]
@[reducible] def k0_t5_loop : Scf.Loop 32 :=
  let c0_i32_23 : BitVec 32 := 0#32
  let c64_i32_24 : BitVec 32 := 64#32
  let v14 : BitVec 32 := Scalar.addi c0_i32_23 c64_i32_24
  let c1_i32_25 : BitVec 32 := 1#32
  ⟨c0_i32_23, v14, c1_i32_25⟩
def k0_off18 (i : grid0.Coords) (k0_t5 : Fin k0_t5_loop.trips) (c0_i32_42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let v28 : BitVec 32 := Scalar.addi v27 c0_i32_42
  let c4_i32_43 : BitVec 32 := 4#32
  let v29 : BitVec 32 := Scalar.muli v28 c4_i32_43
  let v30 : BitVec 32 := Scalar.addi v2 v29
  let c0_i32_44 : BitVec 32 := 0#32
  ![v30.toNat, 0]
def k0_cond1 (k0_t5 : Fin k0_t5_loop.trips) : BitVec 1 :=
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let c0_i32_42 : BitVec 32 := 0#32
  let v28 : BitVec 32 := Scalar.addi v27 c0_i32_42
  let c2_i32_46 : BitVec 32 := 2#32
  let v33 : BitVec 1 := Scalar.cmpi .sge v28 c2_i32_46
  let v34 : BitVec 32 := Scalar.extui v33
  let c0_i32_47 : BitVec 32 := 0#32
  let v35 : BitVec 1 := Scalar.cmpi .ne v34 c0_i32_47
  v35

def k0_off19 (i : grid0.Coords) (k0_t5 : Fin k0_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let c0_i32_42 : BitVec 32 := 0#32
  let v28 : BitVec 32 := Scalar.addi v27 c0_i32_42
  let c2_i32_208 : BitVec 32 := 2#32
  let v199 : BitVec 32 := Scalar.subi v28 c2_i32_208
  let c4_i32_209 : BitVec 32 := 4#32
  let v200 : BitVec 32 := Scalar.muli v199 c4_i32_209
  let v201 : BitVec 32 := Scalar.addi v2 v200
  let c0_i32_210 : BitVec 32 := 0#32
  let c0_i32_211 : BitVec 32 := 0#32
  ![v201.toNat, 0, 0]
def k0_off20 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let c0_i32_42 : BitVec 32 := 0#32
  let v28 : BitVec 32 := Scalar.addi v27 c0_i32_42
  let c2_i32_214 : BitVec 32 := 2#32
  let v204 : BitVec 32 := Scalar.subi v28 c2_i32_214
  let c4_i32_215 : BitVec 32 := 4#32
  let v205 : BitVec 32 := Scalar.muli v204 c4_i32_215
  let v206 : BitVec 32 := Scalar.addi v2 v205
  let c0_i32_216 : BitVec 32 := 0#32
  ![v206.toNat, 0]
@[reducible] def k0_t6_loop : Scf.Loop 32 :=
  let c0_i32_49 : BitVec 32 := 0#32
  let c130_i32 : BitVec 32 := 130#32
  let v36 : BitVec 32 := Scalar.addi c0_i32_49 c130_i32
  let c1_i32_50 : BitVec 32 := 1#32
  ⟨c0_i32_49, v36, c1_i32_50⟩
def k0_off21 (k0_t6 : Fin k0_t6_loop.trips) : Fin 1 → Nat :=
  let c0_i32_49 : BitVec 32 := 0#32
  let c1_i32_50 : BitVec 32 := 1#32
  let arg22 : BitVec 32 := Scf.iv c0_i32_49 c1_i32_50 k0_t6
  let c16_i32 : BitVec 32 := 16#32
  let v199 : BitVec 32 := Scalar.muli arg22 c16_i32
  let v200 : Index := Scalar.indexCast v199
  ![v200.toNat]
def k0_off22 (k0_t6 : Fin k0_t6_loop.trips) : Fin 2 → Nat :=
  let c0_i32_211 : BitVec 32 := 0#32
  let v208 : Index := Scalar.indexCast c0_i32_211
  let c64_i32_210 : BitVec 32 := 64#32
  let c0_i32_49 : BitVec 32 := 0#32
  let c1_i32_50 : BitVec 32 := 1#32
  let arg22 : BitVec 32 := Scf.iv c0_i32_49 c1_i32_50 k0_t6
  let c16_i32_209 : BitVec 32 := 16#32
  let v206 : BitVec 32 := Scalar.muli arg22 c16_i32_209
  let v207 : BitVec 32 := Scalar.addi c64_i32_210 v206
  let v209 : Index := Scalar.indexCast v207
  ![0, v209.toNat]

def k0_chk1 (v201 : IVec S16 32) (v204 : IVec S16 32) (v213 : IVec S16 32) : Prop :=
  (∀ a x, ((![v213, v201, v204] : Fin 3 → IVec S16 32) a x).toNat < S4x64x64.size a)
theorem k0_idx1_inb : ∀ (v201 : IVec S16 32) (v204 : IVec S16 32) (v213 : IVec S16 32) (k0_hw1 : k0_chk1 v201 v204 v213), ∀ a x, ((![v213, v201, v204] : Fin 3 → IVec S16 32) a x).toNat < S4x64x64.size a := fun v201 v204 v213 k0_hw1 => k0_hw1
def k0_off23 (k0_t6 : Fin k0_t6_loop.trips) : Fin 2 → Nat :=
  let c1_i32_215 : BitVec 32 := 1#32
  let v216 : Index := Scalar.indexCast c1_i32_215
  let c64_i32_214 : BitVec 32 := 64#32
  let c0_i32_49 : BitVec 32 := 0#32
  let c1_i32_50 : BitVec 32 := 1#32
  let arg22 : BitVec 32 := Scf.iv c0_i32_49 c1_i32_50 k0_t6
  let c16_i32_213 : BitVec 32 := 16#32
  let v214 : BitVec 32 := Scalar.muli arg22 c16_i32_213
  let v215 : BitVec 32 := Scalar.addi c64_i32_214 v214
  let v217 : Index := Scalar.indexCast v215
  ![1, v217.toNat]

def k0_chk2 (v201 : IVec S16 32) (v204 : IVec S16 32) (v221 : IVec S16 32) : Prop :=
  (∀ a x, ((![v221, v201, v204] : Fin 3 → IVec S16 32) a x).toNat < S4x64x64.size a)
theorem k0_idx2_inb : ∀ (v201 : IVec S16 32) (v204 : IVec S16 32) (v221 : IVec S16 32) (k0_hw2 : k0_chk2 v201 v204 v221), ∀ a x, ((![v221, v201, v204] : Fin 3 → IVec S16 32) a x).toNat < S4x64x64.size a := fun v201 v204 v221 k0_hw2 => k0_hw2
def k0_off24 (k0_t6 : Fin k0_t6_loop.trips) : Fin 2 → Nat :=
  let c2_i32_219 : BitVec 32 := 2#32
  let v224 : Index := Scalar.indexCast c2_i32_219
  let c64_i32_218 : BitVec 32 := 64#32
  let c0_i32_49 : BitVec 32 := 0#32
  let c1_i32_50 : BitVec 32 := 1#32
  let arg22 : BitVec 32 := Scf.iv c0_i32_49 c1_i32_50 k0_t6
  let c16_i32_217 : BitVec 32 := 16#32
  let v222 : BitVec 32 := Scalar.muli arg22 c16_i32_217
  let v223 : BitVec 32 := Scalar.addi c64_i32_218 v222
  let v225 : Index := Scalar.indexCast v223
  ![2, v225.toNat]

def k0_chk3 (v201 : IVec S16 32) (v204 : IVec S16 32) (v229 : IVec S16 32) : Prop :=
  (∀ a x, ((![v229, v201, v204] : Fin 3 → IVec S16 32) a x).toNat < S4x64x64.size a)
theorem k0_idx3_inb : ∀ (v201 : IVec S16 32) (v204 : IVec S16 32) (v229 : IVec S16 32) (k0_hw3 : k0_chk3 v201 v204 v229), ∀ a x, ((![v229, v201, v204] : Fin 3 → IVec S16 32) a x).toNat < S4x64x64.size a := fun v201 v204 v229 k0_hw3 => k0_hw3
def k0_off25 (k0_t6 : Fin k0_t6_loop.trips) : Fin 2 → Nat :=
  let c3_i32_223 : BitVec 32 := 3#32
  let v232 : Index := Scalar.indexCast c3_i32_223
  let c64_i32_222 : BitVec 32 := 64#32
  let c0_i32_49 : BitVec 32 := 0#32
  let c1_i32_50 : BitVec 32 := 1#32
  let arg22 : BitVec 32 := Scf.iv c0_i32_49 c1_i32_50 k0_t6
  let c16_i32_221 : BitVec 32 := 16#32
  let v230 : BitVec 32 := Scalar.muli arg22 c16_i32_221
  let v231 : BitVec 32 := Scalar.addi c64_i32_222 v230
  let v233 : Index := Scalar.indexCast v231
  ![3, v233.toNat]

def k0_chk4 (v201 : IVec S16 32) (v204 : IVec S16 32) (v237 : IVec S16 32) : Prop :=
  (∀ a x, ((![v237, v201, v204] : Fin 3 → IVec S16 32) a x).toNat < S4x64x64.size a)
theorem k0_idx4_inb : ∀ (v201 : IVec S16 32) (v204 : IVec S16 32) (v237 : IVec S16 32) (k0_hw4 : k0_chk4 v201 v204 v237), ∀ a x, ((![v237, v201, v204] : Fin 3 → IVec S16 32) a x).toNat < S4x64x64.size a := fun v201 v204 v237 k0_hw4 => k0_hw4
def k0_off26 (i : grid0.Coords) (k0_t5 : Fin k0_t5_loop.trips) (c0_i32_42 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let v28 : BitVec 32 := Scalar.addi v27 c0_i32_42
  let c4_i32_111 : BitVec 32 := 4#32
  let v101 : BitVec 32 := Scalar.muli v28 c4_i32_111
  let v102 : BitVec 32 := Scalar.addi v2 v101
  let c0_i32_112 : BitVec 32 := 0#32
  let c0_i32_113 : BitVec 32 := 0#32
  ![v102.toNat, 0, 0]
def k0_off27 (i : grid0.Coords) (k0_t5 : Fin k0_t5_loop.trips) (c0_i32_42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let v28 : BitVec 32 := Scalar.addi v27 c0_i32_42
  let c4_i32_116 : BitVec 32 := 4#32
  let v105 : BitVec 32 := Scalar.muli v28 c4_i32_116
  let v106 : BitVec 32 := Scalar.addi v2 v105
  let c0_i32_117 : BitVec 32 := 0#32
  ![v106.toNat, 0]
def k0_cond2 (k0_t5 : Fin k0_t5_loop.trips) : BitVec 1 :=
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let c0_i32_42 : BitVec 32 := 0#32
  let v28 : BitVec 32 := Scalar.addi v27 c0_i32_42
  let c2_i32_119 : BitVec 32 := 2#32
  let v109 : BitVec 32 := Scalar.addi v28 c2_i32_119
  let c128_i32 : BitVec 32 := 128#32
  let v110 : BitVec 1 := Scalar.cmpi .slt v109 c128_i32
  let v111 : BitVec 32 := Scalar.extui v110
  let c0_i32_120 : BitVec 32 := 0#32
  let v112 : BitVec 1 := Scalar.cmpi .ne v111 c0_i32_120
  v112

def k0_off28 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_41 : BitVec 32 := 2#32
  let v27 : BitVec 32 := Scalar.muli arg21 c2_i32_41
  let c0_i32_42 : BitVec 32 := 0#32
  let v28 : BitVec 32 := Scalar.addi v27 c0_i32_42
  let c2_i32_208 : BitVec 32 := 2#32
  let v199 : BitVec 32 := Scalar.addi v28 c2_i32_208
  let c4_i32_209 : BitVec 32 := 4#32
  let v200 : BitVec 32 := Scalar.muli v199 c4_i32_209
  let v201 : BitVec 32 := Scalar.addi v2 v200
  let c0_i32_210 : BitVec 32 := 0#32
  ![v201.toNat, 0]
def k0_cond3 (k0_t5 : Fin k0_t5_loop.trips) : BitVec 1 :=
  let c0_i32_23 : BitVec 32 := 0#32
  let c1_i32_25 : BitVec 32 := 1#32
  let arg21 : BitVec 32 := Scf.iv c0_i32_23 c1_i32_25 k0_t5
  let c2_i32_121 : BitVec 32 := 2#32
  let v113 : BitVec 32 := Scalar.muli arg21 c2_i32_121
  let c1_i32_122 : BitVec 32 := 1#32
  let v114 : BitVec 32 := Scalar.addi v113 c1_i32_122
  let c2_i32_126 : BitVec 32 := 2#32
  let v119 : BitVec 1 := Scalar.cmpi .sge v114 c2_i32_126
  let v120 : BitVec 32 := Scalar.extui v119
  let c0_i32_127 : BitVec 32 := 0#32
  let v121 : BitVec 1 := Scalar.cmpi .ne v120 c0_i32_127
  v121

def k0_off29 (i : grid0.Coords) (k0_t5 : Fin k0_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_121 : BitVec 32 := 2#32
  let v113 : BitVec 32 := Scalar.muli arg21 c2_i32_121
  let c1_i32_122 : BitVec 32 := 1#32
  let v114 : BitVec 32 := Scalar.addi v113 c1_i32_122
  let c2_i32_208 : BitVec 32 := 2#32
  let v199 : BitVec 32 := Scalar.subi v114 c2_i32_208
  let c4_i32_209 : BitVec 32 := 4#32
  let v200 : BitVec 32 := Scalar.muli v199 c4_i32_209
  let v201 : BitVec 32 := Scalar.addi v2 v200
  let c0_i32_210 : BitVec 32 := 0#32
  let c0_i32_211 : BitVec 32 := 0#32
  ![v201.toNat, 0, 0]
def k0_off30 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_121 : BitVec 32 := 2#32
  let v113 : BitVec 32 := Scalar.muli arg21 c2_i32_121
  let c1_i32_122 : BitVec 32 := 1#32
  let v114 : BitVec 32 := Scalar.addi v113 c1_i32_122
  let c2_i32_214 : BitVec 32 := 2#32
  let v204 : BitVec 32 := Scalar.subi v114 c2_i32_214
  let c4_i32_215 : BitVec 32 := 4#32
  let v205 : BitVec 32 := Scalar.muli v204 c4_i32_215
  let v206 : BitVec 32 := Scalar.addi v2 v205
  let c0_i32_216 : BitVec 32 := 0#32
  ![v206.toNat, 0]
@[reducible] def k0_t7_loop : Scf.Loop 32 :=
  let c0_i32_129 : BitVec 32 := 0#32
  let c130_i32_130 : BitVec 32 := 130#32
  let v122 : BitVec 32 := Scalar.addi c0_i32_129 c130_i32_130
  let c1_i32_131 : BitVec 32 := 1#32
  ⟨c0_i32_129, v122, c1_i32_131⟩
def k0_off31 (k0_t7 : Fin k0_t7_loop.trips) : Fin 1 → Nat :=
  let c0_i32_129 : BitVec 32 := 0#32
  let c1_i32_131 : BitVec 32 := 1#32
  let arg22 : BitVec 32 := Scf.iv c0_i32_129 c1_i32_131 k0_t7
  let c16_i32 : BitVec 32 := 16#32
  let v199 : BitVec 32 := Scalar.muli arg22 c16_i32
  let v200 : Index := Scalar.indexCast v199
  ![v200.toNat]
def k0_off32 (k0_t7 : Fin k0_t7_loop.trips) : Fin 2 → Nat :=
  let c0_i32_211 : BitVec 32 := 0#32
  let v208 : Index := Scalar.indexCast c0_i32_211
  let c64_i32_210 : BitVec 32 := 64#32
  let c0_i32_129 : BitVec 32 := 0#32
  let c1_i32_131 : BitVec 32 := 1#32
  let arg22 : BitVec 32 := Scf.iv c0_i32_129 c1_i32_131 k0_t7
  let c16_i32_209 : BitVec 32 := 16#32
  let v206 : BitVec 32 := Scalar.muli arg22 c16_i32_209
  let v207 : BitVec 32 := Scalar.addi c64_i32_210 v206
  let v209 : Index := Scalar.indexCast v207
  ![0, v209.toNat]

def k0_chk5 (v201 : IVec S16 32) (v204 : IVec S16 32) (v213 : IVec S16 32) : Prop :=
  (∀ a x, ((![v213, v201, v204] : Fin 3 → IVec S16 32) a x).toNat < S4x64x64.size a)
theorem k0_idx5_inb : ∀ (v201 : IVec S16 32) (v204 : IVec S16 32) (v213 : IVec S16 32) (k0_hw5 : k0_chk5 v201 v204 v213), ∀ a x, ((![v213, v201, v204] : Fin 3 → IVec S16 32) a x).toNat < S4x64x64.size a := fun v201 v204 v213 k0_hw5 => k0_hw5
def k0_off33 (k0_t7 : Fin k0_t7_loop.trips) : Fin 2 → Nat :=
  let c1_i32_215 : BitVec 32 := 1#32
  let v216 : Index := Scalar.indexCast c1_i32_215
  let c64_i32_214 : BitVec 32 := 64#32
  let c0_i32_129 : BitVec 32 := 0#32
  let c1_i32_131 : BitVec 32 := 1#32
  let arg22 : BitVec 32 := Scf.iv c0_i32_129 c1_i32_131 k0_t7
  let c16_i32_213 : BitVec 32 := 16#32
  let v214 : BitVec 32 := Scalar.muli arg22 c16_i32_213
  let v215 : BitVec 32 := Scalar.addi c64_i32_214 v214
  let v217 : Index := Scalar.indexCast v215
  ![1, v217.toNat]

def k0_chk6 (v201 : IVec S16 32) (v204 : IVec S16 32) (v221 : IVec S16 32) : Prop :=
  (∀ a x, ((![v221, v201, v204] : Fin 3 → IVec S16 32) a x).toNat < S4x64x64.size a)
theorem k0_idx6_inb : ∀ (v201 : IVec S16 32) (v204 : IVec S16 32) (v221 : IVec S16 32) (k0_hw6 : k0_chk6 v201 v204 v221), ∀ a x, ((![v221, v201, v204] : Fin 3 → IVec S16 32) a x).toNat < S4x64x64.size a := fun v201 v204 v221 k0_hw6 => k0_hw6
def k0_off34 (k0_t7 : Fin k0_t7_loop.trips) : Fin 2 → Nat :=
  let c2_i32_219 : BitVec 32 := 2#32
  let v224 : Index := Scalar.indexCast c2_i32_219
  let c64_i32_218 : BitVec 32 := 64#32
  let c0_i32_129 : BitVec 32 := 0#32
  let c1_i32_131 : BitVec 32 := 1#32
  let arg22 : BitVec 32 := Scf.iv c0_i32_129 c1_i32_131 k0_t7
  let c16_i32_217 : BitVec 32 := 16#32
  let v222 : BitVec 32 := Scalar.muli arg22 c16_i32_217
  let v223 : BitVec 32 := Scalar.addi c64_i32_218 v222
  let v225 : Index := Scalar.indexCast v223
  ![2, v225.toNat]

def k0_chk7 (v201 : IVec S16 32) (v204 : IVec S16 32) (v229 : IVec S16 32) : Prop :=
  (∀ a x, ((![v229, v201, v204] : Fin 3 → IVec S16 32) a x).toNat < S4x64x64.size a)
theorem k0_idx7_inb : ∀ (v201 : IVec S16 32) (v204 : IVec S16 32) (v229 : IVec S16 32) (k0_hw7 : k0_chk7 v201 v204 v229), ∀ a x, ((![v229, v201, v204] : Fin 3 → IVec S16 32) a x).toNat < S4x64x64.size a := fun v201 v204 v229 k0_hw7 => k0_hw7
def k0_off35 (k0_t7 : Fin k0_t7_loop.trips) : Fin 2 → Nat :=
  let c3_i32_223 : BitVec 32 := 3#32
  let v232 : Index := Scalar.indexCast c3_i32_223
  let c64_i32_222 : BitVec 32 := 64#32
  let c0_i32_129 : BitVec 32 := 0#32
  let c1_i32_131 : BitVec 32 := 1#32
  let arg22 : BitVec 32 := Scf.iv c0_i32_129 c1_i32_131 k0_t7
  let c16_i32_221 : BitVec 32 := 16#32
  let v230 : BitVec 32 := Scalar.muli arg22 c16_i32_221
  let v231 : BitVec 32 := Scalar.addi c64_i32_222 v230
  let v233 : Index := Scalar.indexCast v231
  ![3, v233.toNat]

def k0_chk8 (v201 : IVec S16 32) (v204 : IVec S16 32) (v237 : IVec S16 32) : Prop :=
  (∀ a x, ((![v237, v201, v204] : Fin 3 → IVec S16 32) a x).toNat < S4x64x64.size a)
theorem k0_idx8_inb : ∀ (v201 : IVec S16 32) (v204 : IVec S16 32) (v237 : IVec S16 32) (k0_hw8 : k0_chk8 v201 v204 v237), ∀ a x, ((![v237, v201, v204] : Fin 3 → IVec S16 32) a x).toNat < S4x64x64.size a := fun v201 v204 v237 k0_hw8 => k0_hw8
def k0_cond4 (k0_t5 : Fin k0_t5_loop.trips) : BitVec 1 :=
  let c0_i32_23 : BitVec 32 := 0#32
  let c1_i32_25 : BitVec 32 := 1#32
  let arg21 : BitVec 32 := Scf.iv c0_i32_23 c1_i32_25 k0_t5
  let c2_i32_121 : BitVec 32 := 2#32
  let v113 : BitVec 32 := Scalar.muli arg21 c2_i32_121
  let c1_i32_122 : BitVec 32 := 1#32
  let v114 : BitVec 32 := Scalar.addi v113 c1_i32_122
  let c2_i32_205 : BitVec 32 := 2#32
  let v195 : BitVec 32 := Scalar.addi v114 c2_i32_205
  let c128_i32_206 : BitVec 32 := 128#32
  let v196 : BitVec 1 := Scalar.cmpi .slt v195 c128_i32_206
  let v197 : BitVec 32 := Scalar.extui v196
  let c0_i32_207 : BitVec 32 := 0#32
  let v198 : BitVec 1 := Scalar.cmpi .ne v197 c0_i32_207
  v198

def k0_off36 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_23 : BitVec 32 := 0#32
  let c1_i32_25 : BitVec 32 := 1#32
  let arg21 : BitVec 32 := Scf.iv c0_i32_23 c1_i32_25 k0_t5
  let c2_i32_121 : BitVec 32 := 2#32
  let v113 : BitVec 32 := Scalar.muli arg21 c2_i32_121
  let c1_i32_122 : BitVec 32 := 1#32
  let v114 : BitVec 32 := Scalar.addi v113 c1_i32_122
  let c2_i32_208 : BitVec 32 := 2#32
  let v199 : BitVec 32 := Scalar.addi v114 c2_i32_208
  let c4_i32_209 : BitVec 32 := 4#32
  let v200 : BitVec 32 := Scalar.muli v199 c4_i32_209
  let v201 : BitVec 32 := Scalar.addi v2 v200
  let c0_i32_210 : BitVec 32 := 0#32
  ![v201.toNat, 0]
def k0_off37 (i : grid0.Coords) (c504_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v15 : BitVec 32 := Scalar.addi v2 c504_i32
  let c0_i32_27 : BitVec 32 := 0#32
  let c0_i32_28 : BitVec 32 := 0#32
  ![v15.toNat, 0, 0]
def k0_off38 (i : grid0.Coords) (c504_i32_31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v18 : BitVec 32 := Scalar.addi v2 c504_i32_31
  let c0_i32_32 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2144 : Shape := ⟨2, ![16384, 2144]⟩
abbrev S2080 : Shape := ⟨1, ![2080]⟩
abbrev S16384x64 : Shape := ⟨2, ![16384, 64]⟩
abbrev S_ : Shape := ⟨0, ![]⟩
abbrev S16384x64x64 : Shape := ⟨3, ![16384, 64, 64]⟩
abbrev S16384x2080 : Shape := ⟨2, ![16384, 2080]⟩
abbrev S2080x1 : Shape := ⟨2, ![2080, 1]⟩
abbrev S2080x2 : Shape := ⟨2, ![2080, 2]⟩
abbrev S64 : Shape := ⟨1, ![64]⟩
abbrev S64x1 : Shape := ⟨2, ![64, 1]⟩
abbrev S64x2 : Shape := ⟨2, ![64, 2]⟩

abbrev nBuf : Space → Nat
  | .hbm => 63
  | .vmem => 0
  | .smem => 0
  | _ => 0

abbrev bufTy : (tb : Table) → Fin (tcTables nBuf tb) → BufTy
  | .hbm, ⟨0, _⟩ => ⟨S16384x2144, .f32⟩
  | .hbm, ⟨1, _⟩ => ⟨S2080, .i32⟩
  | .hbm, ⟨2, _⟩ => ⟨S2080, .i32⟩
  | .hbm, ⟨3, _⟩ => ⟨S16384x64, .f32⟩
  | .hbm, ⟨4, _⟩ => ⟨S_, .f32⟩
  | .hbm, ⟨5, _⟩ => ⟨S16384x64x64, .f32⟩
  | .hbm, ⟨6, _⟩ => ⟨S16384x2080, .f32⟩
  | .hbm, ⟨7, _⟩ => ⟨S_, .i32⟩
  | .hbm, ⟨8, _⟩ => ⟨S2080, .i32⟩
  | .hbm, ⟨9, _⟩ => ⟨S2080, .i1⟩
  | .hbm, ⟨10, _⟩ => ⟨S_, .i32⟩
  | .hbm, ⟨11, _⟩ => ⟨S2080, .i32⟩
  | .hbm, ⟨12, _⟩ => ⟨S2080, .i32⟩
  | .hbm, ⟨13, _⟩ => ⟨S2080, .i32⟩
  | .hbm, ⟨14, _⟩ => ⟨S_, .i32⟩
  | .hbm, ⟨15, _⟩ => ⟨S2080, .i32⟩
  | .hbm, ⟨16, _⟩ => ⟨S2080, .i1⟩
  | .hbm, ⟨17, _⟩ => ⟨S_, .i32⟩
  | .hbm, ⟨18, _⟩ => ⟨S2080, .i32⟩
  | .hbm, ⟨19, _⟩ => ⟨S2080, .i32⟩
  | .hbm, ⟨20, _⟩ => ⟨S2080, .i32⟩
  | .hbm, ⟨21, _⟩ => ⟨S2080x1, .i32⟩
  | .hbm, ⟨22, _⟩ => ⟨S2080x1, .i32⟩
  | .hbm, ⟨23, _⟩ => ⟨S2080x2, .i32⟩
  | .hbm, ⟨24, _⟩ => ⟨S16384x64x64, .f32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S64x1, .i32⟩
  | .hbm, ⟨42, _⟩ => ⟨S64x2, .i32⟩
  | .hbm, ⟨43, _⟩ => ⟨S16384x64, .f32⟩
  | .hbm, ⟨44, _⟩ => ⟨S16384x64, .f32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i1⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S64, .i32⟩
  | .hbm, ⟨59, _⟩ => ⟨S64x1, .i32⟩
  | .hbm, ⟨60, _⟩ => ⟨S64x1, .i32⟩
  | .hbm, ⟨61, _⟩ => ⟨S64x2, .i32⟩
  | .hbm, ⟨62, _⟩ => ⟨S16384x64x64, .f32⟩
  | _, _ => ⟨S16384x2144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_11 : Ref sig .tc := ⟨.hbm, 52, rfl⟩
abbrev main_v38 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Buf.lean ====
/-
  Memrefs held by their values. `Has c m q x` is the share `q` of the memref `m`, whose elements read `x`. The rules here
  step a program over such memrefs: a load reads a window, a store puts one, an indexed store scatters, a local transfer
  carries the source's values to the destination when it is waited for.
-/
module

public import Idealize.ShloMosaic.Lib.VecWindow
public import Idealize.ShloMosaic.Lib.Transfers
public import Idealize.ShloMosaic.Lib.SparseCore.Ops

@[expose] public section

noncomputable section

namespace Cert.Proof

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp sp' : Space} {cs : CoreSpace} {s s' : Shape} {e e' : EltTy} {α : Type}
variable {Q : α → sProp (MT nD τ sig Ix (Elt F) Name U Lvl)}

local notation "𝕄" => MT nD τ sig Ix (Elt F) Name U Lvl

/-- The share `q` of the memref's elements, which read `x`. -/
def Has (m : Memref sig c.2.kind sp s e) (q : PosShare TreeShare) (x : s.Idx → Elt F e) : sProp 𝕄 :=
  m.view.loc c ↦[m.view.set]{q} m.view.rep x

instance Has_storable (m : Memref sig c.2.kind sp s e) (q : PosShare TreeShare) (x : s.Idx → Elt F e) :
    BI.Storable (upEmb : UEmb _ 𝕄) (Has c m q x) := by unfold Has; infer_instance

/-- Contents that read `x` give the memref at `x`. -/
theorem has_of_read (m : Memref sig c.2.kind sp s e) (q : PosShare TreeShare) (g : Buf (Elt F) (m.view.loc c)) {x : s.Idx → Elt F e}
    (h : m.view.read (Elt F) g = x) : (m.view.loc c ↦[m.view.set]{q} g : sProp 𝕄) ⊢ Has c m q x :=
  pointsTo_rep_of_read c m g q x h

/-- A load of a box reads the window. -/
theorem has_load {m : Memref sig c.2.kind cs s e} {off off' size : Fin s.rank → ℕ} {inb : ∀ a, off a + size a ≤ s.size a}
    {hl : m.view.LoadsAt (Rect.unit off size inb).toLoadRect} {q : PosShare TreeShare} {x : s.Idx → Elt F e}
    {k : ((Rect.unit off size inb).toLoadRect.shape.Idx → Elt F e) → Prog (TpuEff nD τ sig (Elt F) Λ c.2) α}
    (h : off = off') (inb' : ∀ a, off' a + size a ≤ s.size a) :
    Has c m q x ⊢ iprop((Has c m q x -∗ wp frame (wpE defs 𝒱 c bd) Set.univ (k (VecWindow.window x off' size inb')) Q)
      -∗ wp frame (wpE defs 𝒱 c bd) Set.univ (.op (.load m (Rect.unit off size inb).toLoadRect hl) k) Q) := by
  iintro H Hk
  unfold Has
  iapply (wp_load (defs := defs) 𝒱 c bd Set.univ (Q := Q) (m := m) (r := (Rect.unit off size inb).toLoadRect) (hl := hl) (k := k)
    (S := m.view.set) (q := q) (f := m.view.rep x) (View.setOn_subset_set _ _)) $$ H
  rw [View.readAt_rep_unit m.view x inb h inb']
  iexact Hk

/-- A store of a box puts the payload there. -/
theorem has_store {m : Memref sig c.2.kind cs s e} {off off' size : Fin s.rank → ℕ} {inb : ∀ a, off a + size a ≤ s.size a}
    {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ c.2) α} {x : s.Idx → Elt F e} (h : off = off') :
    Has c m fullShare x ⊢ iprop((Has c m fullShare (VecWindow.put x off' size w) -∗ wp frame (wpE defs 𝒱 c bd) Set.univ (k ⟨⟩) Q)
      -∗ wp frame (wpE defs 𝒱 c bd) Set.univ (.op (.store m (Rect.unit off size inb) w Finset.univ hx hm) k) Q) := by
  iintro H Hk
  unfold Has
  iapply (wp_store (defs := defs) 𝒱 c bd Set.univ (Q := Q) (m := m) (r := Rect.unit off size inb) (Mk := Finset.univ) (w := w) (hx := hx) (hm := hm)
    (k := k) (S := m.view.set) (f := m.view.rep x) (View.set_slice_subset _ _)) $$ H
  iintro H
  iapply Hk
  ihave H' := (pointsTo_rep_of_read c m ((m.access (Rect.unit off size inb)).write (Elt F) (m.view.rep x) w Finset.univ) fullShare
    (VecWindow.put x off' size w) (View.read_writes_rep_unit m.view x inb w h)) $$ H
  iexact H'

/-- An indexed store scatters its values. -/
theorem has_storeIdx {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {x : s.Idx → Elt F e} :
    Has c base fullShare x
      ⊢ iprop((Has c base fullShare (storeIdx x idxs v mask add h) -∗ wp frame (wpE defs 𝒱 c bd) Set.univ (k ⟨⟩) Q)
        -∗ wp frame (wpE defs 𝒱 c bd) Set.univ (SparseCore.vectorStoreIdx base idxs v mask add h hs >>= k) Q) := by
  rw [SparseCore.vectorStoreIdx_bind]
  iintro H Hk
  unfold Has
  iapply (wp_load (defs := defs) 𝒱 c bd Set.univ (Q := Q) (m := base) (r := (Rect.whole s).toLoadRect) (hl := View.loadsAt_rect hs.loads)
    (k := fun f => .op (.store base (.whole s) (storeIdx f idxs v mask add h) Finset.univ hs (.inl rfl)) k)
    (S := base.view.set) (q := fullShare) (f := base.view.rep x) (View.setOn_subset_set _ _)) $$ H
  iintro H
  iapply (wp_store (defs := defs) 𝒱 c bd Set.univ (Q := Q) (m := base) (r := .whole s) (Mk := Finset.univ)
    (S := base.view.set) (f := base.view.rep x) (View.set_slice_subset _ _)) $$ H
  iintro H
  iapply Hk
  have e1 : base.view.readAt (Elt F) (Rect.whole s).toLoadRect (base.view.rep x) = x := by
    rw [View.readAt_rep]; funext y; exact congrArg x (funext fun a => Fin.ext (by
      show 0 + 1 * (y a).val = (y a).val; omega))
  rw [e1]
  ihave H' := (pointsTo_rep_of_read c base ((base.access (.whole s)).write (Elt F) (base.view.rep x) (storeIdx x idxs v mask add h) Finset.univ) fullShare
    (storeIdx x idxs v mask add h) (View.read_writes_whole base.view (base.view.rep x) (storeIdx x idxs v mask add h))) $$ H
  iexact H'

variable (EC : UEmb Counters (MT nD τ sig Ix (Elt F) Name U Lvl))

/-- A local transfer: at the wait, the destination holds what the source does. -/
theorem has_dma [Infinite Name] [EC.LandsIn (upEmb : UEmb _ 𝕄)]
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {x y : s.Idx → Elt F e}
    (ι : Ix) {N : ℕ} (hN : dst.view.dmaCredit = N) (hs : 0 < s.numel) :
    iprop(Has c src q x ∗ Has c dst fullShare y ∗ semVal (c, .dma sm) 0)
      ⊢ iprop((Transfers.Flight EC c (.dma sm) ι N iprop(Has c dst fullShare x ∗ Has c src q x)
              -∗ wp frame (wpE defs 𝒱 c bd) Set.univ (k ⟨⟩) Q)
          -∗ wp frame (wpE defs 𝒱 c bd) Set.univ (.op (.enqueueDma src (.here dst) (.dma sm) hsrc hdst hsem) k) Q) := by
  iintro ⟨Hs, Hd, Hv⟩ Hk
  unfold Has
  iapply (Transfers.wp_dmaLocal (defs := defs) EC 𝒱 c bd ι N (show dst.view.amount (.dma sm) = N from hN) (hN ▸ View.dmaCredit_pos _ hs) subset_rfl
    (via := .same) (src := src) (dst := dst) (fs := src.view.rep x) (fd := dst.view.rep y) (q := q)) $$ [Hs Hd Hv]
  · isplitl [Hs]; · iexact Hs
    isplitl [Hd]; · iexact Hd
    iexact Hv
  iintro HF
  iapply Hk
  iapply (Transfers.Flight_mono EC c ?hmono) $$ HF
  case hmono =>
    iintro ⟨Hd, Hs⟩
    isplitl [Hd]
    · ihave H' := (pointsTo_rep_of_read c dst _ fullShare x ((View.read_write_univ _ _).trans (View.read_rep _ _))) $$ Hd
      iexact H'
    · iexact Hs

/-- The wait for a transfer of one's own. -/
theorem has_wait [EC.LandsIn (upEmb : UEmb _ 𝕄)] {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Transfers.MayWaits c ι O ∗ Transfers.Flight EC c (.dma sem) ι N D ∗ (∃ W', ⌜∀ p ∈ W', p ∈ W ∨ p.2 = ι⌝ ∗ owes c O W'))
      ⊢ iprop((iprop(D ∗ semVal (c, .dma sem) 0 ∗ (∃ W', ⌜∀ p ∈ W', p ∈ W ∨ p.2 = ι⌝ ∗ owes c O W')) -∗ wp frame (wpE defs 𝒱 c bd) Set.univ (k ⟨⟩) Q)
          -∗ wp frame (wpE defs 𝒱 c bd) Set.univ (.op (.waitDma2 sem srcw dstw hsrc hdst) k) Q) := by
  iintro ⟨Hm, HF, %W', %hW, HO⟩ Hk
  ihave Hm' := (Transfers.MayWaits.elim (.dma sem)) $$ Hm
  iapply (Transfers.wp_waitLocalO (defs := defs) EC 𝒱 c bd ι hN) $$ [HF HO Hm']
  · isplitl [HF]; · iexact HF
    isplitl [HO]; · iexact HO
    iexact Hm'
  iintro ⟨HD, Hv, HO⟩
  iapply Hk
  isplitl [HD]; · iexact HD
  isplitl [Hv]; · iexact Hv
  iexists (insert (SemLoc.dma sem, ι) W')
  isplitr
  · ipureintro
    intro p hp
    rcases Finset.mem_insert.mp hp with hp | hp
    · exact .inr (hp ▸ rfl)
    · exact hW p hp
  · iexact HO

end Cert.Proof

end
-- ==== Proof.Vals.lean ====
/-
  The values. A row of the argument is 64 local values, then the 2080 entries of a lower triangle, row by row: entry
  `(i, j)` with `j ≤ i` is at `64 + tri i + j`. `outVal` is the triangle with its diagonal exponentiated and zeros above;
  `locVal` the local values. Beside them: what the kernel's scratch buffers hold part of the way (`Zeroed`, `Filled`,
  `Copied`), each with the step that one store makes.
-/
module

public import Idealize.ShloMosaic.Lib.VecWindow
public import Idealize.ShloMosaic.Lib.ValueLayout

@[expose] public section

noncomputable section

namespace Cert.Proof

open Idealize.ShloMosaic Idealize.ShloMosaic.ValueIdx

variable {F : FTy → Type} [FloatOps F]

/-! ## The triangle's layout -/

/-- Where row `i` of the triangle starts. -/
def tri (i : ℕ) : ℕ := i * (i + 1) / 2

theorem tri_succ (i : ℕ) : tri (i + 1) = tri i + (i + 1) := by
  unfold tri
  rw [show (i + 1) * (i + 1 + 1) = i * (i + 1) + (i + 1) * 2 by rw [Nat.mul_comm i (i + 1), ← Nat.mul_add], Nat.add_mul_div_right _ _ (by omega)]

theorem tri_mono {i k : ℕ} (h : i ≤ k) : tri i ≤ tri k := by
  induction h with
  | refl => exact le_rfl
  | step _ ih => exact ih.trans (by rw [Nat.succ_eq_add_one, tri_succ]; omega)

/-- An entry's place determines it. -/
theorem tri_inj {i j i' j' : ℕ} (hj : j ≤ i) (hj' : j' ≤ i') (h : tri i + j = tri i' + j') : i = i' ∧ j = j' := by
  rcases lt_trichotomy i i' with hlt | rfl | hlt
  · have := tri_mono (show i + 1 ≤ i' from hlt); rw [tri_succ] at this; omega
  · exact ⟨rfl, by omega⟩
  · have := tri_mono (show i' + 1 ≤ i from hlt); rw [tri_succ] at this; omega

theorem tri_lt {i j : ℕ} (hi : i < 64) (hj : j ≤ i) : tri i + j < 2080 := by
  have h1 := tri_mono (show i ≤ 63 by omega)
  have h2 : tri 63 = 2016 := by decide
  omega

/-- The tables name, at place `n`, the entry that is there. -/
def TblOK (T1 T2 : (⟨1, ![2080]⟩ : Shape).Idx → BitVec 32) : Prop :=
  ∀ n : Fin 2080, (T2 (ix1 n)).toNat ≤ (T1 (ix1 n)).toNat ∧ (T1 (ix1 n)).toNat < 64
    ∧ n.val = tri (T1 (ix1 n)).toNat + (T2 (ix1 n)).toNat

/-! ## The results -/

/-- Zero, as the programs write it. -/
def zer : F .f32 := Scalar.ofBits .f32 0x00000000#32

variable {N : ℕ}

/-- Entry `n` of row `r`. -/
def rowAt (x : (⟨2, ![N, 2144]⟩ : Shape).Idx → F .f32) (r : Fin N) (n : ℕ) : F .f32 := x (ix2 r ⟨n % 2144, Nat.mod_lt _ (by decide)⟩)

/-- The triangle of row `j 0`, its diagonal exponentiated. -/
def outVal (x : (⟨2, ![N, 2144]⟩ : Shape).Idx → F .f32) : (⟨3, ![N, 64, 64]⟩ : Shape).Idx → F .f32 := fun j =>
  if (j 2).val < (j 1).val then rowAt x (j 0) (64 + tri (j 1).val + (j 2).val)
  else if (j 2).val = (j 1).val then FloatOps.exp (rowAt x (j 0) (64 + tri (j 1).val + (j 2).val))
  else zer

/-- The local values of row `j 0`. -/
def locVal (x : (⟨2, ![N, 2144]⟩ : Shape).Idx → F .f32) : (⟨2, ![N, 64]⟩ : Shape).Idx → F .f32 := fun j => rowAt x (j 0) (j 1).val

/-! ## An indexed store -/

section StoreIdx
variable {s : Shape} {e : EltTy} {d : Fin 1 → ℕ}

/-- Lane `x` of the indices names `j`. -/
def Hits (idxs : Fin s.rank → IVec ⟨1, d⟩ 32) (x : (⟨1, d⟩ : Shape).Idx) (j : s.Idx) : Prop := ∀ a, (j a).val = (idxs a x).toNat

/-- A fold of steps that each set the value at `j` or leave it. -/
theorem foldl_at {β K γ : Type} (st : (β → γ) → K → β → γ) (j : β) (H : K → Prop) (v : K → γ) (hm : ∀ g k, ¬ H k → st g k j = g j) (hh : ∀ g k, H k → st g k j = v k) (l : List K) :
    ∀ f : β → γ, ((∀ k ∈ l, ¬ H k) → l.foldl st f j = f j)
      ∧ (∀ y, (∃ k ∈ l, H k) → (∀ k ∈ l, H k → v k = y) → l.foldl st f j = y) := by
  induction l with
  | nil => exact fun f => ⟨fun _ => rfl, fun y ⟨k, hk, _⟩ => absurd hk List.not_mem_nil⟩
  | cons k l ih =>
    intro f
    simp only [List.foldl_cons]
    constructor
    · intro hn
      rw [(ih _).1 fun k' hk' => hn k' (List.mem_cons_of_mem _ hk')]
      exact hm _ _ (hn k List.mem_cons_self)
    · intro y hy hv
      by_cases hl : ∃ k ∈ l, H k
      · exact (ih _).2 y hl fun k' hk' => hv k' (List.mem_cons_of_mem _ hk')
      · obtain ⟨k', hk', hk⟩ := hy
        rcases List.mem_cons.mp hk' with rfl | hk'
        · rw [(ih _).1 fun k'' h1 h2 => hl ⟨k'', h1, h2⟩]
          exact (hh _ _ hk).trans (hv _ List.mem_cons_self hk)
        · exact absurd ⟨k', hk', hk⟩ hl

theorem storeIdx_fold (f : Vec F s e) (idxs : Fin s.rank → IVec ⟨1, d⟩ 32) (v : Vec F ⟨1, d⟩ e) (h : ∀ a x, (idxs a x).toNat < s.size a) (j : s.Idx) :
    ((∀ k ∈ List.finRange (d 0), ¬ Hits idxs (Shape.ofLane k) j) → storeIdx f idxs v (fun _ => 1#1) false h j = f j)
      ∧ (∀ y, (∃ k ∈ List.finRange (d 0), Hits idxs (Shape.ofLane k) j) → (∀ k ∈ List.finRange (d 0), Hits idxs (Shape.ofLane k) j → v (Shape.ofLane k) = y) →
          storeIdx f idxs v (fun _ => 1#1) false h j = y) := by
  unfold storeIdx
  refine foldl_at _ j (fun k => Hits idxs (Shape.ofLane k) j) (fun k => v (Shape.ofLane k)) ?_ ?_ _ f
  · intro g k hk; exact if_neg hk
  · intro g k hk; exact if_pos hk

/-- Where no lane goes, an indexed store changes nothing. -/
theorem storeIdx_miss (f : Vec F s e) (idxs : Fin s.rank → IVec ⟨1, d⟩ 32) (v : Vec F ⟨1, d⟩ e) (h : ∀ a x, (idxs a x).toNat < s.size a) (j : s.Idx)
    (hn : ∀ k, ¬ Hits idxs (Shape.ofLane k) j) : storeIdx f idxs v (fun _ => 1#1) false h j = f j :=
  (storeIdx_fold f idxs v h j).1 fun k _ => hn k

/-- Where lanes go, an indexed store leaves their value. -/
theorem storeIdx_hit (f : Vec F s e) (idxs : Fin s.rank → IVec ⟨1, d⟩ 32) (v : Vec F ⟨1, d⟩ e) (h : ∀ a x, (idxs a x).toNat < s.size a) (j : s.Idx)
    (y : Elt F e) (hy : ∃ k, Hits idxs (Shape.ofLane k) j) (hv : ∀ k, Hits idxs (Shape.ofLane k) j → v (Shape.ofLane k) = y) :
    storeIdx f idxs v (fun _ => 1#1) false h j = y :=
  (storeIdx_fold f idxs v h j).2 y (let ⟨k, hk⟩ := hy; ⟨k, List.mem_finRange k, hk⟩) fun k _ => hv k

end StoreIdx

/-! ## The triangle's buffer, part of the way -/

/-- The first `n` runs of sixteen are zeros. -/
def Zeroed (n : ℕ) (y : (⟨3, ![4, 64, 64]⟩ : Shape).Idx → F .f32) : Prop :=
  ∀ j, 4 * (64 * (j 0).val + (j 1).val) + (j 2).val / 16 < n → y j = zer

/-- A store of sixteen zeros. -/
theorem Zeroed.put {n r k q : ℕ} {y : (⟨3, ![4, 64, 64]⟩ : Shape).Idx → F .f32} (hy : Zeroed n y) (hk : k < 64) (hq : q < 4)
    (hn : n = 4 * (64 * r + k) + q) {w : (⟨3, ![1, 1, 16]⟩ : Shape).Idx → F .f32} (hw : ∀ i, w i = zer) :
    Zeroed (n + 1) (VecWindow.put (s := ⟨3, ![4, 64, 64]⟩) y ![r, k, 16 * q] (⟨3, ![1, 1, 16]⟩ : Shape).size w) := by
  intro j hj
  unfold VecWindow.put
  by_cases h : ∀ a, (![r, k, 16 * q] : Fin 3 → ℕ) a ≤ (j a).val ∧ (j a).val < (![r, k, 16 * q] : Fin 3 → ℕ) a + (⟨3, ![1, 1, 16]⟩ : Shape).size a
  · rw [dif_pos h]; exact hw _
  · rw [dif_neg h]
    refine hy j ?_
    by_contra hc
    have h1 : (j 1).val < 64 := (j 1).isLt
    have h2 : (j 2).val < 64 := (j 2).isLt
    refine h fun a => ?_
    match a with
    | ⟨0, _⟩ => show r ≤ (j 0).val ∧ (j 0).val < r + 1; omega
    | ⟨1, _⟩ => show k ≤ (j 1).val ∧ (j 1).val < k + 1; omega
    | ⟨2, _⟩ => show 16 * q ≤ (j 2).val ∧ (j 2).val < 16 * q + 16; omega

/-- Zeros above the diagonal. -/
def Upper (y : (⟨3, ![4, 64, 64]⟩ : Shape).Idx → F .f32) : Prop := ∀ j, (j 1).val < (j 2).val → y j = zer

theorem Zeroed.upper {y : (⟨3, ![4, 64, 64]⟩ : Shape).Idx → F .f32} (h : Zeroed 1024 y) : Upper y := fun j _ => h j (by
  have h0 : (j 0).val < 4 := (j 0).isLt
  have h1 : (j 1).val < 64 := (j 1).isLt
  have h2 : (j 2).val < 64 := (j 2).isLt
  omega)

theorem upper_outVal (x : (⟨2, ![4, 2144]⟩ : Shape).Idx → F .f32) : Upper (outVal x) := fun j h => by
  unfold outVal; rw [if_neg (by omega), if_neg (by omega)]

/-- The first `16 k` entries of each row of the triangle are in place, and sixteen more of the first `r` rows. -/
def Filled (x : (⟨2, ![4, 2144]⟩ : Shape).Idx → F .f32) (k r : ℕ) (y : (⟨3, ![4, 64, 64]⟩ : Shape).Idx → F .f32) : Prop :=
  Upper y ∧ ∀ j, (j 2).val ≤ (j 1).val → tri (j 1).val + (j 2).val < 16 * k + (if (j 0).val < r then 16 else 0) → y j = outVal x j

theorem filled_zero {x : (⟨2, ![4, 2144]⟩ : Shape).Idx → F .f32} {y : (⟨3, ![4, 64, 64]⟩ : Shape).Idx → F .f32} (h : Upper y) : Filled x 0 0 y :=
  ⟨h, fun j _ hj => by rw [if_neg (by omega)] at hj; omega⟩

theorem Filled.next {x : (⟨2, ![4, 2144]⟩ : Shape).Idx → F .f32} {k : ℕ} {y : (⟨3, ![4, 64, 64]⟩ : Shape).Idx → F .f32} (h : Filled x k 4 y) :
    Filled x (k + 1) 0 y :=
  ⟨h.1, fun j hj hn => h.2 j hj (by
    have h0 : (j 0).val < 4 := (j 0).isLt
    rw [if_pos h0]; rw [if_neg (by omega)] at hn; omega)⟩

theorem Filled.done {x : (⟨2, ![4, 2144]⟩ : Shape).Idx → F .f32} {y : (⟨3, ![4, 64, 64]⟩ : Shape).Idx → F .f32} (h : Filled x 130 0 y) : y = outVal x := by
  funext j
  have h1 : (j 1).val < 64 := (j 1).isLt
  by_cases hj : (j 2).val ≤ (j 1).val
  · exact h.2 j hj (by have := tri_lt h1 hj; omega)
  · rw [h.1 j (by omega), upper_outVal x j (by omega)]

/-- The indexed store of sixteen entries of row `r`, each diagonal one exponentiated. -/
theorem Filled.store {x : (⟨2, ![4, 2144]⟩ : Shape).Idx → F .f32} {T1 T2 : (⟨1, ![2080]⟩ : Shape).Idx → BitVec 32} (hT : TblOK T1 T2)
    {k r : ℕ} (hk : k < 130) (hr : r < 4) {y : (⟨3, ![4, 64, 64]⟩ : Shape).Idx → F .f32} (hy : Filled x k r y)
    (i1 : ∀ a, (![16 * k] : Fin 1 → ℕ) a + (⟨1, ![16]⟩ : Shape).size a ≤ (⟨1, ![2080]⟩ : Shape).size a)
    (i2 : ∀ a, (![r, 16 * k + 64] : Fin 2 → ℕ) a + (⟨2, ![1, 16]⟩ : Shape).size a ≤ (⟨2, ![4, 2144]⟩ : Shape).size a)
    (hc : (⟨2, ![1, 16]⟩ : Shape).ShapeCasts ⟨1, ![16]⟩)
    {v0 : IVec ⟨1, ![16]⟩ 32} (hv0 : ∀ i, (v0 i).toNat = r)
    (h : ∀ a i, ((![v0, VecWindow.window (s := ⟨1, ![2080]⟩) T1 ![16 * k] (⟨1, ![16]⟩ : Shape).size i1,
      VecWindow.window (s := ⟨1, ![2080]⟩) T2 ![16 * k] (⟨1, ![16]⟩ : Shape).size i1] : Fin 3 → IVec ⟨1, ![16]⟩ 32) a i).toNat < (⟨3, ![4, 64, 64]⟩ : Shape).size a) :
    Filled x k (r + 1) (storeIdx (F := F) (s := ⟨3, ![4, 64, 64]⟩) (e := .f32) y
      ![v0, VecWindow.window (s := ⟨1, ![2080]⟩) T1 ![16 * k] (⟨1, ![16]⟩ : Shape).size i1, VecWindow.window (s := ⟨1, ![2080]⟩) T2 ![16 * k] (⟨1, ![16]⟩ : Shape).size i1]
      (select (cmpi .eq (VecWindow.window (s := ⟨1, ![2080]⟩) T1 ![16 * k] (⟨1, ![16]⟩ : Shape).size i1) (VecWindow.window (s := ⟨1, ![2080]⟩) T2 ![16 * k] (⟨1, ![16]⟩ : Shape).size i1))
        (exp (shapeCast ⟨1, ![16]⟩ (VecWindow.window (s := ⟨2, ![4, 2144]⟩) x ![r, 16 * k + 64] (⟨2, ![1, 16]⟩ : Shape).size i2) hc))
        (shapeCast ⟨1, ![16]⟩ (VecWindow.window (s := ⟨2, ![4, 2144]⟩) x ![r, 16 * k + 64] (⟨2, ![1, 16]⟩ : Shape).size i2) hc)) (fun _ => 1#1) false h) := by
  -- lane `l`: entry `16 k + l`
  have hW : ∀ (T : (⟨1, ![2080]⟩ : Shape).Idx → BitVec 32) (l : Fin 16),
      VecWindow.window (s := ⟨1, ![2080]⟩) T ![16 * k] (⟨1, ![16]⟩ : Shape).size i1 (ix1 l) = T (ix1 ⟨16 * k + l.val, by omega⟩) := fun T l =>
    congrArg T (funext fun a => Fin.ext (by obtain rfl : a = 0 := Subsingleton.elim _ _; show 16 * k + 1 * l.val = 16 * k + l.val; omega))
  have hL : ∀ l : Fin 16, (Shape.ofLane (d := ![16]) l) = ix1 l := fun l => funext fun a => by obtain rfl : a = 0 := Subsingleton.elim _ _; rfl
  have hX : ∀ l : Fin 16, shapeCast ⟨1, ![16]⟩ (VecWindow.window (s := ⟨2, ![4, 2144]⟩) x ![r, 16 * k + 64] (⟨2, ![1, 16]⟩ : Shape).size i2) hc (ix1 l)
      = rowAt x ⟨r, hr⟩ (64 + (16 * k + l.val)) := fun l => by
    refine (shapeCast_1a_a_apply _ hc l).trans (congrArg x (funext fun a => Fin.ext ?_))
    match a with
    | ⟨0, _⟩ => show r + 1 * 0 = r; omega
    | ⟨1, _⟩ => show 16 * k + 64 + 1 * l.val = (64 + (16 * k + l.val)) % 2144; rw [Nat.mod_eq_of_lt (by omega)]; omega
  have hhit : ∀ (l : Fin 16) (j : (⟨3, ![4, 64, 64]⟩ : Shape).Idx), Hits (s := ⟨3, ![4, 64, 64]⟩) ![v0, VecWindow.window (s := ⟨1, ![2080]⟩) T1 ![16 * k] (⟨1, ![16]⟩ : Shape).size i1,
      VecWindow.window (s := ⟨1, ![2080]⟩) T2 ![16 * k] (⟨1, ![16]⟩ : Shape).size i1] (Shape.ofLane (d := ![16]) l) j
      ↔ (j 0).val = r ∧ (j 1).val = (T1 (ix1 ⟨16 * k + l.val, by omega⟩)).toNat ∧ (j 2).val = (T2 (ix1 ⟨16 * k + l.val, by omega⟩)).toNat := fun l j => by
    rw [hL, ← hW T1 l, ← hW T2 l, ← hv0 (ix1 l)]
    exact ⟨fun H => ⟨H 0, H 1, H 2⟩, fun H a => match a with | ⟨0, _⟩ => H.1 | ⟨1, _⟩ => H.2.1 | ⟨2, _⟩ => H.2.2⟩
  constructor
  · intro j hj
    rw [storeIdx_miss]; · exact hy.1 j hj
    intro (l : Fin 16) hl
    obtain ⟨-, e1, e2⟩ := (hhit l j).mp hl
    have := (hT ⟨16 * k + l.val, by omega⟩).1
    omega
  · intro j hj hn
    have h1 : (j 1).val < 64 := (j 1).isLt
    by_cases hin : (j 0).val = r ∧ 16 * k ≤ tri (j 1).val + (j 2).val
    · obtain ⟨hr0, hlo⟩ := hin
      rw [if_pos (by omega)] at hn
      -- the lane that writes `j`
      have hl : ∀ l : Fin 16, Hits (s := ⟨3, ![4, 64, 64]⟩) ![v0, VecWindow.window (s := ⟨1, ![2080]⟩) T1 ![16 * k] (⟨1, ![16]⟩ : Shape).size i1,
          VecWindow.window (s := ⟨1, ![2080]⟩) T2 ![16 * k] (⟨1, ![16]⟩ : Shape).size i1] (Shape.ofLane (d := ![16]) l) j ↔ 16 * k + l.val = tri (j 1).val + (j 2).val := fun l => by
        rw [hhit]
        obtain ⟨a1, a2, a3⟩ := hT ⟨16 * k + l.val, by omega⟩
        constructor
        · rintro ⟨-, e1, e2⟩; rw [e1, e2]; exact a3
        · intro e
          obtain ⟨b1, b2⟩ := tri_inj a1 hj (a3.symm.trans e)
          exact ⟨hr0, b1.symm, b2.symm⟩
      refine storeIdx_hit _ _ _ _ j _ ⟨⟨tri (j 1).val + (j 2).val - 16 * k, by show _ < 16; omega⟩, (hl _).mpr (by show 16 * k + (tri (j 1).val + (j 2).val - 16 * k) = _; omega)⟩ ?_
      intro (l : Fin 16) hlj
      have e := (hl l).mp hlj
      obtain ⟨-, e1, e2⟩ := (hhit l j).mp hlj
      show Scalar.select (IntOp.cmpi .eq (VecWindow.window (s := ⟨1, ![2080]⟩) T1 ![16 * k] (⟨1, ![16]⟩ : Shape).size i1 (Shape.ofLane (d := ![16]) l))
          (VecWindow.window (s := ⟨1, ![2080]⟩) T2 ![16 * k] (⟨1, ![16]⟩ : Shape).size i1 (Shape.ofLane (d := ![16]) l)))
        (FloatOps.exp (shapeCast ⟨1, ![16]⟩ (VecWindow.window (s := ⟨2, ![4, 2144]⟩) x ![r, 16 * k + 64] (⟨2, ![1, 16]⟩ : Shape).size i2) hc (Shape.ofLane (d := ![16]) l)))
        (shapeCast ⟨1, ![16]⟩ (VecWindow.window (s := ⟨2, ![4, 2144]⟩) x ![r, 16 * k + 64] (⟨2, ![1, 16]⟩ : Shape).size i2) hc (Shape.ofLane (d := ![16]) l)) = outVal x j
      rw [hL, hW, hW, hX, show (⟨r, hr⟩ : Fin 4) = j 0 from Fin.ext hr0.symm]
      unfold outVal
      have hsel : ∀ (u w : BitVec 32) (A B : F .f32), Scalar.select (IntOp.cmpi .eq u w) A B = if u.toNat = w.toNat then A else B := fun u w A B => by
        unfold Scalar.select IntOp.cmpi
        by_cases huw : u = w
        · subst huw; simp
        · rw [if_neg (by show ¬ BitVec.ofBool (u == w) = 1#1; rw [beq_false_of_ne huw]; decide), if_neg (fun h => huw (BitVec.eq_of_toNat_eq h))]
      rw [hsel, ← e1, ← e2, show 64 + (16 * k + l.val) = 64 + tri (j 1).val + (j 2).val by omega]
      by_cases hd : (j 1).val = (j 2).val
      · rw [if_pos hd, if_neg (by omega), if_pos hd.symm]
      · rw [if_neg hd, if_pos (by omega)]
    · rw [storeIdx_miss]
      · refine hy.2 j hj ?_
        split at hn <;> split <;> omega
      · intro (l : Fin 16) hlj
        obtain ⟨e0, e1, e2⟩ := (hhit l j).mp hlj
        have := (hT ⟨16 * k + l.val, by omega⟩).2.2
        rw [← e1, ← e2] at this
        exact hin ⟨e0, by show 16 * k ≤ _; rw [← this]; show 16 * k ≤ 16 * k + l.val; omega⟩

/-! ## The local values' buffer, part of the way -/

/-- The first `n` runs of sixteen are copied. -/
def Copied (x : (⟨2, ![4, 2144]⟩ : Shape).Idx → F .f32) (n : ℕ) (y : (⟨2, ![4, 64]⟩ : Shape).Idx → F .f32) : Prop :=
  ∀ j, 4 * (j 0).val + (j 1).val / 16 < n → y j = locVal x j

theorem copied_zero (x : (⟨2, ![4, 2144]⟩ : Shape).Idx → F .f32) (y : (⟨2, ![4, 64]⟩ : Shape).Idx → F .f32) : Copied x 0 y := fun j h => absurd h (by omega)

theorem Copied.done {x : (⟨2, ![4, 2144]⟩ : Shape).Idx → F .f32} {y : (⟨2, ![4, 64]⟩ : Shape).Idx → F .f32} (h : Copied x 16 y) : y = locVal x := funext fun j => h j (by
  have h0 : (j 0).val < 4 := (j 0).isLt
  have h1 : (j 1).val < 64 := (j 1).isLt
  omega)

/-- A run of sixteen copied. -/
theorem Copied.put {x : (⟨2, ![4, 2144]⟩ : Shape).Idx → F .f32} {n r q : ℕ} {y : (⟨2, ![4, 64]⟩ : Shape).Idx → F .f32} (hy : Copied x n y) (hr : r < 4) (hq : q < 4)
    (hn : n = 4 * r + q) (inb : ∀ a, (![r, 16 * q] : Fin 2 → ℕ) a + (⟨2, ![1, 16]⟩ : Shape).size a ≤ (⟨2, ![4, 2144]⟩ : Shape).size a)
    (hc : (⟨2, ![1, 16]⟩ : Shape).ShapeCasts ⟨1, ![16]⟩) (hc' : (⟨1, ![16]⟩ : Shape).ShapeCasts ⟨2, ![1, 16]⟩) :
    Copied x (n + 1) (VecWindow.put (s := ⟨2, ![4, 64]⟩) y ![r, 16 * q] (⟨2, ![1, 16]⟩ : Shape).size
      (shapeCast ⟨2, ![1, 16]⟩ (shapeCast ⟨1, ![16]⟩ (VecWindow.window (s := ⟨2, ![4, 2144]⟩) x ![r, 16 * q] (⟨2, ![1, 16]⟩ : Shape).size inb) hc) hc')) := by
  intro j hj
  have h1 : (j 1).val < 64 := (j 1).isLt
  unfold VecWindow.put
  by_cases h : ∀ a, (![r, 16 * q] : Fin 2 → ℕ) a ≤ (j a).val ∧ (j a).val < (![r, 16 * q] : Fin 2 → ℕ) a + (⟨2, ![1, 16]⟩ : Shape).size a
  · rw [dif_pos h]
    have a0 : r ≤ (j 0).val ∧ (j 0).val < r + 1 := h 0
    have a1 : 16 * q ≤ (j 1).val ∧ (j 1).val < 16 * q + 16 := h 1
    have hi : Rect.unitLocal (s := ⟨2, ![4, 64]⟩) (off := ![r, 16 * q]) (size := (⟨2, ![1, 16]⟩ : Shape).size) j h
        = ix2 (0 : Fin 1) (⟨(j 1).val - 16 * q, by omega⟩ : Fin 16) := funext fun a => Fin.ext (by
      match a with
      | ⟨0, _⟩ => show (j 0).val - r = 0; omega
      | ⟨1, _⟩ => rfl)
    rw [hi]
    refine (shapeCast_a_1a_apply _ hc' _ _).trans ((shapeCast_1a_a_apply _ hc _).trans (congrArg x (funext fun a => Fin.ext ?_)))
    match a with
    | ⟨0, _⟩ => show r + 1 * 0 = (j 0).val; omega
    | ⟨1, _⟩ => show 16 * q + 1 * ((j 1).val - 16 * q) = (j 1).val % 2144; rw [Nat.mod_eq_of_lt (by omega)]; omega
  · rw [dif_neg h]
    refine hy j ?_
    by_contra hcc
    refine h fun a => ?_
    match a with
    | ⟨0, _⟩ => show r ≤ (j 0).val ∧ (j 0).val < r + 1; omega
    | ⟨1, _⟩ => show 16 * q ≤ (j 1).val ∧ (j 1).val < 16 * q + 16; omega

/-! ## Four rows of an array -/

/-- The block of rows `4 g …` of an array of rows. -/
def rows4 (x : (⟨2, ![16384, 2144]⟩ : Shape).Idx → F .f32) (b : ℕ) (hb : b + 4 ≤ 16384) : (⟨2, ![4, 2144]⟩ : Shape).Idx → F .f32 :=
  fun j => x (ix2 ⟨b + (j 0).val, by have h0 : (j 0).val < 4 := (j 0).isLt; omega⟩ (j 1))

/-- The results of the block are the block of the results. -/
theorem outVal_rows4 (x : (⟨2, ![16384, 2144]⟩ : Shape).Idx → F .f32) (b : ℕ) (hb : b + 4 ≤ 16384) (j : (⟨3, ![4, 64, 64]⟩ : Shape).Idx) :
    outVal (rows4 x b hb) j = outVal x (ix3 ⟨b + (j 0).val, by have h0 : (j 0).val < 4 := (j 0).isLt; omega⟩ (j 1) (j 2)) := rfl

theorem locVal_rows4 (x : (⟨2, ![16384, 2144]⟩ : Shape).Idx → F .f32) (b : ℕ) (hb : b + 4 ≤ 16384) (j : (⟨2, ![4, 64]⟩ : Shape).Idx) :
    locVal (rows4 x b hb) j = locVal x (ix2 ⟨b + (j 0).val, by have h0 : (j 0).val < 4 := (j 0).isLt; omega⟩ (j 1)) := rfl

end Cert.Proof

end
-- ==== Proof.Steps.lean ====
/-
  The two steps a group of rows is worked by, as rules over memrefs held by their values: sixteen entries of one row
  scattered into the square block, and sixteen leading entries of one row copied.
-/
module

public import proofs.«01_k».proof.Proof.Buf
public import proofs.«01_k».proof.Proof.Vals

@[expose] public section

noncomputable section

namespace Cert.Proof

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.ValueIdx

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {α : Type} {Q : α → sProp (MT nD τ sig Ix (Elt F) Name U Lvl)}

local notation "𝕄" => MT nD τ sig Ix (Elt F) Name U Lvl

/-- The square block with the entries below `16 k`, and those of the next sixteen of the rows below `r`, in place. -/
def HasFilled (m : Memref sig c.2.kind .vmem ⟨3, ![4, 64, 64]⟩ .f32) (x : (⟨2, ![4, 2144]⟩ : Shape).Idx → F .f32) (k r : ℕ) : sProp 𝕄 :=
  iprop(∃ y : (⟨3, ![4, 64, 64]⟩ : Shape).Idx → F .f32, ⌜Filled x k r y⌝ ∗ Has c m fullShare y)

/-- The leading entries with the first `n` pieces of sixteen in place. -/
def HasCopied (m : Memref sig c.2.kind .vmem ⟨2, ![4, 64]⟩ .f32) (x : (⟨2, ![4, 2144]⟩ : Shape).Idx → F .f32) (n : ℕ) : sProp 𝕄 :=
  iprop(∃ y : (⟨2, ![4, 64]⟩ : Shape).Idx → F .f32, ⌜Copied x n y⌝ ∗ Has c m fullShare y)

/-- The square block with the first `n` pieces of sixteen zeroed. -/
def HasZeroed (m : Memref sig c.2.kind .vmem ⟨3, ![4, 64, 64]⟩ .f32) (n : ℕ) : sProp 𝕄 :=
  iprop(∃ y : (⟨3, ![4, 64, 64]⟩ : Shape).Idx → F .f32, ⌜Zeroed n y⌝ ∗ Has c m fullShare y)

/-- Row `r`'s sixteen entries from `16 k` on, scattered to their places. -/
theorem fill_row {m7 : Memref sig c.2.kind .vmem ⟨2, ![4, 2144]⟩ .f32} {m13 : Memref sig c.2.kind .vmem ⟨3, ![4, 64, 64]⟩ .f32}
    {x : (⟨2, ![4, 2144]⟩ : Shape).Idx → F .f32} {T1 T2 : (⟨1, ![2080]⟩ : Shape).Idx → BitVec 32} (hT : TblOK T1 T2)
    {k r : ℕ} (hk : k < 130) (hr : r < 4)
    {off : Fin 2 → ℕ} (hoff : off = ![r, 16 * k + 64]) {inb : ∀ a, off a + (⟨2, ![1, 16]⟩ : Shape).size a ≤ (⟨2, ![4, 2144]⟩ : Shape).size a}
    {hl : m7.view.LoadsAt (Rect.unit (s := ⟨2, ![4, 2144]⟩) off (⟨2, ![1, 16]⟩ : Shape).size inb).toLoadRect}
    (i1 : ∀ a, (![16 * k] : Fin 1 → ℕ) a + (⟨1, ![16]⟩ : Shape).size a ≤ (⟨1, ![2080]⟩ : Shape).size a)
    {hc : (⟨2, ![1, 16]⟩ : Shape).ShapeCasts ⟨1, ![16]⟩} {P : Prop} {dP : Decidable P} {v0 : IVec ⟨1, ![16]⟩ 32} (hv0 : ∀ i, (v0 i).toNat = r)
    (h : P → ∀ a i, ((![v0, VecWindow.window (s := ⟨1, ![2080]⟩) T1 ![16 * k] (⟨1, ![16]⟩ : Shape).size i1,
      VecWindow.window (s := ⟨1, ![2080]⟩) T2 ![16 * k] (⟨1, ![16]⟩ : Shape).size i1] : Fin 3 → IVec ⟨1, ![16]⟩ 32) a i).toNat < (⟨3, ![4, 64, 64]⟩ : Shape).size a)
    (hP : (∀ a i, ((![v0, VecWindow.window (s := ⟨1, ![2080]⟩) T1 ![16 * k] (⟨1, ![16]⟩ : Shape).size i1,
      VecWindow.window (s := ⟨1, ![2080]⟩) T2 ![16 * k] (⟨1, ![16]⟩ : Shape).size i1] : Fin 3 → IVec ⟨1, ![16]⟩ 32) a i).toNat < (⟨3, ![4, 64, 64]⟩ : Shape).size a) → P)
    {hs : (m13.access (.whole ⟨3, ![4, 64, 64]⟩)).Stores Finset.univ} {kk : PUnit → Prog (TpuEff nD τ sig (Elt F) Λ c.2) α} :
    iprop(Has c m7 fullShare x ∗ HasFilled c m13 x k r)
      ⊢ iprop((iprop(Has c m7 fullShare x ∗ HasFilled c m13 x k (r + 1)) -∗ wp frame (wpE defs 𝒱 c bd) Set.univ (kk ⟨⟩) Q)
          -∗ wp frame (wpE defs 𝒱 c bd) Set.univ (.op (.load m7 (Rect.unit (s := ⟨2, ![4, 2144]⟩) off (⟨2, ![1, 16]⟩ : Shape).size inb).toLoadRect hl) fun ld =>
            .op (.assume P dP) fun hh =>
              SparseCore.vectorStoreIdx m13 ![v0, VecWindow.window (s := ⟨1, ![2080]⟩) T1 ![16 * k] (⟨1, ![16]⟩ : Shape).size i1,
                  VecWindow.window (s := ⟨1, ![2080]⟩) T2 ![16 * k] (⟨1, ![16]⟩ : Shape).size i1]
                (select (cmpi .eq (VecWindow.window (s := ⟨1, ![2080]⟩) T1 ![16 * k] (⟨1, ![16]⟩ : Shape).size i1)
                    (VecWindow.window (s := ⟨1, ![2080]⟩) T2 ![16 * k] (⟨1, ![16]⟩ : Shape).size i1))
                  (exp (shapeCast ⟨1, ![16]⟩ ld hc)) (shapeCast ⟨1, ![16]⟩ ld hc)) (fun _ => 1#1) false (h hh.down) hs >>= kk) Q) := by
  have i2 : ∀ a, (![r, 16 * k + 64] : Fin 2 → ℕ) a + (⟨2, ![1, 16]⟩ : Shape).size a ≤ (⟨2, ![4, 2144]⟩ : Shape).size a := hoff ▸ inb
  have hall : ∀ a i, ((![v0, VecWindow.window (s := ⟨1, ![2080]⟩) T1 ![16 * k] (⟨1, ![16]⟩ : Shape).size i1,
      VecWindow.window (s := ⟨1, ![2080]⟩) T2 ![16 * k] (⟨1, ![16]⟩ : Shape).size i1] : Fin 3 → IVec ⟨1, ![16]⟩ 32) a i).toNat < (⟨3, ![4, 64, 64]⟩ : Shape).size a := by
    intro a i
    have hb : ∀ j : (⟨1, ![2080]⟩ : Shape).Idx, (T1 j).toNat < 64 ∧ (T2 j).toNat < 64 := fun j => by
      have e : j = ix1 (j 0) := funext fun b => by obtain rfl : b = 0 := Subsingleton.elim _ _; rfl
      rw [e]; exact ⟨(hT _).2.1, lt_of_le_of_lt (hT _).1 (hT _).2.1⟩
    match a with
    | ⟨0, _⟩ => show (v0 i).toNat < 4; rw [hv0 i]; exact hr
    | ⟨1, _⟩ => show (VecWindow.window (s := ⟨1, ![2080]⟩) T1 ![16 * k] (⟨1, ![16]⟩ : Shape).size i1 i).toNat < 64
                exact (hb _).1
    | ⟨2, _⟩ => show (VecWindow.window (s := ⟨1, ![2080]⟩) T2 ![16 * k] (⟨1, ![16]⟩ : Shape).size i1 i).toNat < 64
                exact (hb _).2
  unfold HasFilled
  iintro ⟨Hx, %y, %hy, Ho⟩ Hk
  iapply (has_load 𝒱 c bd hoff i2) $$ Hx
  iintro Hx
  rw [wp_assume_of _ _ _ _ (hP hall)]
  iapply (has_storeIdx 𝒱 c bd) $$ Ho
  iintro Ho
  iapply Hk
  isplitl [Hx]; · iexact Hx
  iexists _
  isplitr
  · ipureintro; exact Filled.store hT hk hr hy i1 i2 hc hv0 hall
  · iexact Ho

/-- The second half of a piece copied: the piece, already loaded, is stored. -/
theorem copy_store {m11 : Memref sig c.2.kind .vmem ⟨2, ![4, 64]⟩ .f32}
    {x : (⟨2, ![4, 2144]⟩ : Shape).Idx → F .f32} {r q n : ℕ} (hr : r < 4) (hq : q < 4) (hn : n = 4 * r + q)
    {off : Fin 2 → ℕ} (hoff : off = ![r, 16 * q]) {inb : ∀ a, off a + (⟨2, ![1, 16]⟩ : Shape).size a ≤ (⟨2, ![4, 64]⟩ : Shape).size a}
    (i2 : ∀ a, (![r, 16 * q] : Fin 2 → ℕ) a + (⟨2, ![1, 16]⟩ : Shape).size a ≤ (⟨2, ![4, 2144]⟩ : Shape).size a)
    {hl : m11.view.LoadsAt (Rect.unit (s := ⟨2, ![4, 64]⟩) off (⟨2, ![1, 16]⟩ : Shape).size inb).toLoadRect}
    {hc : (⟨2, ![1, 16]⟩ : Shape).ShapeCasts ⟨1, ![16]⟩} {hc' : (⟨1, ![16]⟩ : Shape).ShapeCasts ⟨2, ![1, 16]⟩}
    {hx : (m11.access (Rect.unit (s := ⟨2, ![4, 64]⟩) off (⟨2, ![1, 16]⟩ : Shape).size inb)).Stores Finset.univ}
    {hm : (Finset.univ : Finset (Rect.unit (s := ⟨2, ![4, 64]⟩) off (⟨2, ![1, 16]⟩ : Shape).size inb).shape.Idx) = Finset.univ
      ∨ ∀ a, (Rect.unit (s := ⟨2, ![4, 64]⟩) off (⟨2, ![1, 16]⟩ : Shape).size inb).stride a = 1}
    {kk : PUnit → Prog (TpuEff nD τ sig (Elt F) Λ c.2) α} :
    HasCopied c m11 x n
      ⊢ iprop((HasCopied c m11 x (n + 1) -∗ wp frame (wpE defs 𝒱 c bd) Set.univ (kk ⟨⟩) Q)
          -∗ wp frame (wpE defs 𝒱 c bd) Set.univ (.op (.load m11 (Rect.unit (s := ⟨2, ![4, 64]⟩) off (⟨2, ![1, 16]⟩ : Shape).size inb).toLoadRect hl) fun _ =>
              .op (.store m11 (Rect.unit (s := ⟨2, ![4, 64]⟩) off (⟨2, ![1, 16]⟩ : Shape).size inb)
                (shapeCast ⟨2, ![1, 16]⟩ (shapeCast ⟨1, ![16]⟩ (VecWindow.window (s := ⟨2, ![4, 2144]⟩) x ![r, 16 * q] (⟨2, ![1, 16]⟩ : Shape).size i2) hc) hc')
                Finset.univ hx hm) kk) Q) := by
  unfold HasCopied
  iintro ⟨%y, %hy, Ho⟩ Hk
  iapply (has_load 𝒱 c bd rfl inb) $$ Ho
  iintro Ho
  iapply (has_store 𝒱 c bd hoff) $$ Ho
  iintro Ho
  iapply Hk
  iexists _
  isplitr
  · ipureintro; exact Copied.put hy hr hq hn i2 hc hc'
  · iexact Ho

/-- One piece of sixteen leading entries copied. -/
theorem copy_piece {m7 : Memref sig c.2.kind .vmem ⟨2, ![4, 2144]⟩ .f32} {m11 : Memref sig c.2.kind .vmem ⟨2, ![4, 64]⟩ .f32}
    {x : (⟨2, ![4, 2144]⟩ : Shape).Idx → F .f32} {n : ℕ} (r q : ℕ) (hr : r < 4) (hq : q < 4) (hn : n = 4 * r + q)
    {off off' : Fin 2 → ℕ} (hoff : off = ![r, 16 * q]) (hoff' : off' = ![r, 16 * q])
    {inb : ∀ a, off a + (⟨2, ![1, 16]⟩ : Shape).size a ≤ (⟨2, ![4, 64]⟩ : Shape).size a}
    {inb' : ∀ a, off' a + (⟨2, ![1, 16]⟩ : Shape).size a ≤ (⟨2, ![4, 2144]⟩ : Shape).size a}
    {hl' : m7.view.LoadsAt (Rect.unit (s := ⟨2, ![4, 2144]⟩) off' (⟨2, ![1, 16]⟩ : Shape).size inb').toLoadRect}
    {hl : m11.view.LoadsAt (Rect.unit (s := ⟨2, ![4, 64]⟩) off (⟨2, ![1, 16]⟩ : Shape).size inb).toLoadRect}
    {hc : (⟨2, ![1, 16]⟩ : Shape).ShapeCasts ⟨1, ![16]⟩} {hc' : (⟨1, ![16]⟩ : Shape).ShapeCasts ⟨2, ![1, 16]⟩}
    {hx : (m11.access (Rect.unit (s := ⟨2, ![4, 64]⟩) off (⟨2, ![1, 16]⟩ : Shape).size inb)).Stores Finset.univ}
    {hm : (Finset.univ : Finset (Rect.unit (s := ⟨2, ![4, 64]⟩) off (⟨2, ![1, 16]⟩ : Shape).size inb).shape.Idx) = Finset.univ
      ∨ ∀ a, (Rect.unit (s := ⟨2, ![4, 64]⟩) off (⟨2, ![1, 16]⟩ : Shape).size inb).stride a = 1}
    {kk : PUnit → Prog (TpuEff nD τ sig (Elt F) Λ c.2) α} :
    iprop(Has c m7 fullShare x ∗ HasCopied c m11 x n)
      ⊢ iprop((iprop(Has c m7 fullShare x ∗ HasCopied c m11 x (n + 1)) -∗ wp frame (wpE defs 𝒱 c bd) Set.univ (kk ⟨⟩) Q)
          -∗ wp frame (wpE defs 𝒱 c bd) Set.univ (.op (.load m7 (Rect.unit (s := ⟨2, ![4, 2144]⟩) off' (⟨2, ![1, 16]⟩ : Shape).size inb').toLoadRect hl') fun ld =>
            .op (.load m11 (Rect.unit (s := ⟨2, ![4, 64]⟩) off (⟨2, ![1, 16]⟩ : Shape).size inb).toLoadRect hl) fun _ =>
              .op (.store m11 (Rect.unit (s := ⟨2, ![4, 64]⟩) off (⟨2, ![1, 16]⟩ : Shape).size inb)
                (shapeCast ⟨2, ![1, 16]⟩ (shapeCast ⟨1, ![16]⟩ ld hc) hc') Finset.univ hx hm) kk) Q) := by
  iintro ⟨Hx, Ho⟩ Hk
  iapply (has_load 𝒱 c bd hoff' (hoff' ▸ inb')) $$ Hx
  iintro Hx
  iapply (copy_store 𝒱 c bd hr hq hn hoff (hoff' ▸ inb')) $$ Ho
  iintro Ho
  iapply Hk
  isplitl [Hx]; · iexact Hx
  iexact Ho

/-- One piece of the square block zeroed. -/
theorem zero_piece {m : Memref sig c.2.kind .vmem ⟨3, ![4, 64, 64]⟩ .f32} {n : ℕ} (r k q : ℕ) (hk : k < 64) (hq : q < 4) (hn : n = 4 * (64 * r + k) + q)
    {off : Fin 3 → ℕ} (hoff : off = ![r, k, 16 * q]) {inb : ∀ a, off a + (⟨3, ![1, 1, 16]⟩ : Shape).size a ≤ (⟨3, ![4, 64, 64]⟩ : Shape).size a}
    {hl : m.view.LoadsAt (Rect.unit (s := ⟨3, ![4, 64, 64]⟩) off (⟨3, ![1, 1, 16]⟩ : Shape).size inb).toLoadRect}
    {w : (⟨3, ![1, 1, 16]⟩ : Shape).Idx → F .f32} (hw : ∀ i, w i = zer)
    {hx : (m.access (Rect.unit (s := ⟨3, ![4, 64, 64]⟩) off (⟨3, ![1, 1, 16]⟩ : Shape).size inb)).Stores Finset.univ}
    {hm : (Finset.univ : Finset (Rect.unit (s := ⟨3, ![4, 64, 64]⟩) off (⟨3, ![1, 1, 16]⟩ : Shape).size inb).shape.Idx) = Finset.univ
      ∨ ∀ a, (Rect.unit (s := ⟨3, ![4, 64, 64]⟩) off (⟨3, ![1, 1, 16]⟩ : Shape).size inb).stride a = 1}
    {kk : PUnit → Prog (TpuEff nD τ sig (Elt F) Λ c.2) α} :
    HasZeroed c m n
      ⊢ iprop((HasZeroed c m (n + 1) -∗ wp frame (wpE defs 𝒱 c bd) Set.univ (kk ⟨⟩) Q)
          -∗ wp frame (wpE defs 𝒱 c bd) Set.univ (.op (.load m (Rect.unit (s := ⟨3, ![4, 64, 64]⟩) off (⟨3, ![1, 1, 16]⟩ : Shape).size inb).toLoadRect hl) fun _ =>
              .op (.store m (Rect.unit (s := ⟨3, ![4, 64, 64]⟩) off (⟨3, ![1, 1, 16]⟩ : Shape).size inb) w Finset.univ hx hm) kk) Q) := by
  unfold HasZeroed
  iintro ⟨%y, %hy, Ho⟩ Hk
  iapply (has_load 𝒱 c bd rfl inb) $$ Ho
  iintro Ho
  iapply (has_store 𝒱 c bd hoff) $$ Ho
  iintro Ho
  iapply Hk
  iexists _
  isplitr
  · ipureintro; exact Zeroed.put hy hk hq hn hw
  · iexact Ho

end Cert.Proof

end
-- ==== Proof.IdealBase.lean ====
/-
  The set-up of the launch for the kernel: the program as the launch theorem sees it, the resource algebra, and the
  memrefs one tile's task is run over.
-/
module

public import proofs.«01_k».proof.Defs
public import proofs.«01_k».proof.Proof.Steps
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the local transfers' counters -/

abbrev UH : Type := URounds (GSem nD τ sig) ℕ
abbrev UU : Type := UH × Counters

abbrev EH : Emb UH (MT nD τ sig (HIx 1) (Elt F) ℕ UU ℕ) := embL
abbrev EC : UEmb Counters (MT nD τ sig (HIx 1) (Elt F) ℕ UU ℕ) := countersEmb

/-! ## A tile -/

/-- The thread of the tile at `i`. -/
abbrev thr (d : Fin nD) (i : grid0.Coords) : Thread nD τ := V d ((i 0).castLE hcore0) ((i 1).castLE hsub0)

end Cert.Proof.KI

end
-- ==== Proof.IdealChunk.lean ====
/-
  One trip of the loops that scatter: the sixteen entries of each of the four rows.
-/
module

public import proofs.«01_k».proof.Proof.IdealBase

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

/-- What one trip of the scattering loop works on: the two tables, the four rows and the square block. -/
def ChunkRes (t1 t2 : Memref sig .scVector .vmem S2080 .i32) (m : Memref sig .scVector .vmem S4x2144 .f32) (o : Memref sig .scVector .vmem S4x64x64 .f32)
    (T1 T2 : S2080.Idx → BitVec 32) (x : S4x2144.Idx → F .f32) (k r : ℕ) : sProp 𝕄 :=
  iprop((Has (e := .i32) (thr d i) t1 fullShare T1 ∗ Has (e := .i32) (thr d i) t2 fullShare T2) ∗ Has (e := .f32) (thr d i) m fullShare x ∗ HasFilled (thr d i) o x k r)

variable {T1 T2 : S2080.Idx → BitVec 32} {x : S4x2144.Idx → F .f32}

theorem chunk_trip (hT : TblOK T1 T2) (k0_t5 : Fin k0_t5_loop.trips) (v2 c0 c1 : BitVec 32) (k : Fin k0_t6_loop.trips) :
    ChunkRes d i arg9 arg10 arg7 arg13 T1 T2 x k.val 0
      ⊢ wp (M := 𝕄) frame (wpE defs₀ 𝒱₀ (thr d i) none) Set.univ (k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 k0_t5 k ⟨⟩)
          fun _ => ChunkRes d i arg9 arg10 arg7 arg13 T1 T2 x (k.val + 1) 0 := by
  have hk : k.val < 130 := lt_of_lt_of_le k.isLt k0_t6_abs.2.1
  unfold ChunkRes k0_t6_body
  rw [k0_part1_eq_skeleton, k0_part1_skel]
  simp only [Prog.lift, Prog.bind_op, Prog.bind_ret, Prog.pure_eq_ret, k0_pay3, k0_pay4, k0_pay5, k0_pay2, k0_pay10, Prog.bind_assoc]
  have i1 : ∀ a, (![16 * k.val] : Fin 1 → ℕ) a + S16.size a ≤ S2080.size a := k0_off21_eq k ▸ k0_off21_inb k
  iintro ⟨⟨H1, H2⟩, H⟩
  iapply (has_load 𝒱₀ (thr d i) none (k0_off21_eq k) i1) $$ H1
  iintro H1
  iapply (has_load 𝒱₀ (thr d i) none (k0_off21_eq k) i1) $$ H2
  iintro H2
  iapply (fill_row 𝒱₀ (thr d i) none hT hk (by decide : 0 < 4) (k0_off22_eq k) i1 (fun _ => rfl) _ id) $$ H
  iintro H
  iapply (fill_row 𝒱₀ (thr d i) none hT hk (by decide : 1 < 4) (k0_off23_eq k) i1 (fun _ => rfl) _ id) $$ H
  iintro H
  iapply (fill_row 𝒱₀ (thr d i) none hT hk (by decide : 2 < 4) (k0_off24_eq k) i1 (fun _ => rfl) _ id) $$ H
  iintro H
  iapply (fill_row 𝒱₀ (thr d i) none hT hk (by decide : 3 < 4) (k0_off25_eq k) i1 (fun _ => rfl) _ id) $$ H
  iintro ⟨Hx, Ho⟩
  rw [wp_ret]
  imodintro
  isplitl [H1 H2]
  · isplitl [H1]; · iexact H1
    iexact H2
  isplitl [Hx]; · iexact Hx
  unfold HasFilled
  icases Ho with ⟨%y, %hy, Ho⟩
  iexists y
  isplitr
  · ipureintro; exact hy.next
  · iexact Ho

/-- The loop of the odd groups does what the loop of the even ones does, on the other pair of blocks. -/
theorem chunk_swap (k0_t5 : Fin k0_t5_loop.trips) (v2 v114 c0 c1 : BitVec 32) (k : Fin k0_t6_loop.trips) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 k0_t5 v114 k ⟨⟩ = k0_t6_body (F := F) i arg2 harg2 arg3 harg3 arg4 harg4 arg5 harg5 arg6 harg6 arg8 harg8 arg7 harg7 arg9 harg9 arg10 harg10 arg11 harg11 arg12 harg12 arg14 harg14 arg13 harg13 arg15 arg16 arg17 arg18 arg19 arg20 v27_r0 v27_r1 v2 c0 c1 k0_t5 k ⟨⟩ := rfl

end Cert.Proof.KI

end
-- ==== Proof.IdealState.lean ====
/-
  What a tile holds between the steps of its main loop, group of four rows by group: the rows on their way in, the two
  results on their way out; and the rules for the transfers of one group.
-/
module

public import proofs.«01_k».proof.Proof.IdealChunk

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)

/-! ## The rows of a group -/

/-- The first row of group `g` of the tile at `i`. -/
def base (g : ℕ) : ℕ := 1024 * (i 1).val + 512 * (i 0).val + 4 * (g % 128)

theorem base_le (g : ℕ) : base i g + 4 ≤ 16384 := by
  have h1 : (i 1).val < 16 := (i 1).isLt
  have h0 : (i 0).val < 2 := (i 0).isLt
  unfold base; omega

theorem inbX (g : ℕ) (a : Fin 2) : (![base i g, 0] : Fin 2 → ℕ) a + S4x2144.size a ≤ S16384x2144.size a := by
  have h := base_le i g
  match a with
  | ⟨0, _⟩ => exact h
  | ⟨1, _⟩ => exact Nat.le_refl 2144

theorem inbL (g : ℕ) (a : Fin 2) : (![base i g, 0] : Fin 2 → ℕ) a + S4x64.size a ≤ S16384x64.size a := by
  have h := base_le i g
  match a with
  | ⟨0, _⟩ => exact h
  | ⟨1, _⟩ => exact Nat.le_refl 64

theorem inbO (g : ℕ) (a : Fin 3) : (![base i g, 0, 0] : Fin 3 → ℕ) a + S4x64x64.size a ≤ S16384x64x64.size a := by
  have h := base_le i g
  match a with
  | ⟨0, _⟩ => exact h
  | ⟨1, _⟩ => exact Nat.le_refl 64
  | ⟨2, _⟩ => exact Nat.le_refl 64

def xAt (m : Memref sig .scVector .hbm S16384x2144 .f32) (g : ℕ) : Memref sig .scVector .hbm S4x2144 .f32 :=
  m.slice (Rect.unit (s := S16384x2144) ![base i g, 0] S4x2144.size (inbX i g)) (fun _ => rfl)
def lAt (m : Memref sig .scVector .hbm S16384x64 .f32) (g : ℕ) : Memref sig .scVector .hbm S4x64 .f32 :=
  m.slice (Rect.unit (s := S16384x64) ![base i g, 0] S4x64.size (inbL i g)) (fun _ => rfl)
def oAt (m : Memref sig .scVector .hbm S16384x64x64 .f32) (g : ℕ) : Memref sig .scVector .hbm S4x64x64 .f32 :=
  m.slice (Rect.unit (s := S16384x64x64) ![base i g, 0, 0] S4x64x64.size (inbO i g)) (fun _ => rfl)

variable (X : S16384x2144.Idx → F .f32)

/-- The values of group `g`. -/
def blk (g : ℕ) : S4x2144.Idx → F .f32 := rows4 X (base i g) (base_le i g)

/-! ## What is held -/

variable (arg2 : Memref sig .scVector .hbm S16384x2144 .f32) (arg5 : Memref sig .scVector .hbm S16384x64 .f32) (arg6 : Memref sig .scVector .hbm S16384x64x64 .f32)

/-- Group `g` of the argument. -/
def HX (g : ℕ) : sProp 𝕄 := Has (e := .f32) (thr d i) (xAt i arg2 g) fullShare (blk i X g)
/-- Group `g` of the two results, in place. -/
def HL (g : ℕ) : sProp 𝕄 := Has (e := .f32) (thr d i) (lAt i arg5 g) fullShare (locVal (blk i X g))
def HO (g : ℕ) : sProp 𝕄 := Has (e := .f32) (thr d i) (oAt i arg6 g) fullShare (outVal (blk i X g))
/-- Group `g` of the two results, whatever it holds. -/
def HLO0 (g : ℕ) : sProp 𝕄 :=
  iprop((∃ y : S4x64.Idx → F .f32, Has (e := .f32) (thr d i) (lAt i arg5 g) fullShare y) ∗ (∃ y : S4x64x64.Idx → F .f32, Has (e := .f32) (thr d i) (oAt i arg6 g) fullShare y))

/-- Group `g` on its way into the block `m`; past the last group, the block idle. -/
def XIn (m : Memref sig .scVector .vmem S4x2144 .f32) (s : DmaSems sig S_) (g : ℕ) : sProp 𝕄 :=
  if g < 128 then
    Transfers.Flight EC (thr d i) (.dma s.sem) none m.view.dmaCredit iprop(Has (e := .f32) (thr d i) m fullShare (blk i X g) ∗ HX d i X arg2 g)
  else iprop((∃ y : S4x2144.Idx → F .f32, Has (e := .f32) (thr d i) m fullShare y) ∗ semVal (thr d i, .dma s.sem) 0)

/-- Group `g` of the argument, if there is one. -/
def NextX (g : ℕ) : sProp 𝕄 := if g < 128 then HX d i X arg2 g else iprop(emp)

/-- Group `g - 2` of the results, if there is one. -/
def Done (g : ℕ) : sProp 𝕄 := if 2 ≤ g then iprop(HO d i X arg6 (g - 2) ∗ HL d i X arg5 (g - 2)) else iprop(emp)

/-- The square block and the leading block idle, the former zero above its diagonals. -/
def Idle (m13 : Memref sig .scVector .vmem S4x64x64 .f32) (s17 : DmaSems sig S_) (m11 : Memref sig .scVector .vmem S4x64 .f32) (s19 : DmaSems sig S_) : sProp 𝕄 :=
  iprop((∃ y : S4x64x64.Idx → F .f32, ⌜Upper y⌝ ∗ Has (e := .f32) (thr d i) m13 fullShare y) ∗ semVal (thr d i, .dma s17.sem) 0
    ∗ (∃ y : S4x64.Idx → F .f32, Has (e := .f32) (thr d i) m11 fullShare y) ∗ semVal (thr d i, .dma s19.sem) 0)

/-- The two blocks' contents, group `g - 2`, on their way out; for the first groups, the blocks idle. -/
def Outs (m13 : Memref sig .scVector .vmem S4x64x64 .f32) (s17 : DmaSems sig S_) (m11 : Memref sig .scVector .vmem S4x64 .f32) (s19 : DmaSems sig S_) (g : ℕ) : sProp 𝕄 :=
  if 2 ≤ g then
    iprop(Transfers.Flight EC (thr d i) (.dma s17.sem) none (oAt i arg6 0).view.dmaCredit
        iprop(HO d i X arg6 (g - 2) ∗ Has (e := .f32) (thr d i) m13 fullShare (outVal (blk i X (g - 2))))
      ∗ Transfers.Flight EC (thr d i) (.dma s19.sem) none (lAt i arg5 0).view.dmaCredit
        iprop(HL d i X arg5 (g - 2) ∗ Has (e := .f32) (thr d i) m11 fullShare (locVal (blk i X (g - 2)))))
  else Idle d i m13 s17 m11 s19

/-- What the tile owes, with only waits of its own transfers added. -/
def Owe (O : CellTallies nD τ sig (HIx 1)) (W : Waits sig (HIx 1)) : sProp 𝕄 :=
  iprop(Transfers.MayWaits (thr d i) none O ∗ ∃ W', ⌜∀ p ∈ W', p ∈ W ∨ p.2 = none⌝ ∗ owes (thr d i) O W')

variable {O : CellTallies nD τ sig (HIx 1)} {W : Waits sig (HIx 1)} {α : Type} {Q : α → sProp (MT nD τ sig (HIx 1) (Elt F) ℕ UU ℕ)}

/-! ## The waits -/

theorem owe_wait {sp sp' : Space} {s s' : Shape} {e e' : EltTy} {κ' : Kind} {sem : DmaSem sig}
    {srcw : Memref sig .scVector sp' s' e'} {dstw : Memref sig κ' sp s e} {hsrc : srcw.view.WordExact} {hdst : dstw.view.WordExact}
    {k : PUnit → Prog (TpuEff nD τ sig (Elt F) Λ₀ (thr d i).2) α} {N : ℕ} (hN : dstw.view.dmaCredit = N) {R : sProp 𝕄} :
    iprop(Transfers.Flight EC (thr d i) (.dma sem) none N R ∗ Owe d i O W)
      ⊢ iprop((iprop(R ∗ semVal (thr d i, .dma sem) 0 ∗ Owe d i O W) -∗ wp frame (wpE defs₀ 𝒱₀ (thr d i) none) Set.univ (k ⟨⟩) Q)
          -∗ wp frame (wpE defs₀ 𝒱₀ (thr d i) none) Set.univ (.op (.waitDma2 sem srcw dstw hsrc hdst) k) Q) := by
  unfold Owe
  iintro ⟨HF, #Hm, HO⟩ Hk
  iapply (has_wait 𝒱₀ (thr d i) none EC none hN) $$ [HF HO]
  · isplitl []; · iexact Hm
    isplitl [HF]; · iexact HF
    iexact HO
  iintro ⟨HD, Hv, HO⟩
  iapply Hk
  isplitl [HD]; · iexact HD
  isplitl [Hv]; · iexact Hv
  isplitl []; · iexact Hm
  iexact HO

/-- The wait for a group of the argument. -/
theorem x_wait {m : Memref sig .scVector .vmem S4x2144 .f32} {s : DmaSems sig S_} {g : ℕ} (hg : g < 128) {sp' : Space} {s' : Shape} {e' : EltTy}
    {srcw : Memref sig .scVector sp' s' e'} {hsrc : srcw.view.WordExact} {hdst : m.view.WordExact} {k : PUnit → Prog (TpuEff nD τ sig (Elt F) Λ₀ (thr d i).2) α} :
    iprop(XIn d i X arg2 m s g ∗ Owe d i O W)
      ⊢ iprop((iprop((Has (e := .f32) (thr d i) m fullShare (blk i X g) ∗ HX d i X arg2 g) ∗ semVal (thr d i, .dma s.sem) 0 ∗ Owe d i O W)
            -∗ wp frame (wpE defs₀ 𝒱₀ (thr d i) none) Set.univ (k ⟨⟩) Q)
          -∗ wp frame (wpE defs₀ 𝒱₀ (thr d i) none) Set.univ (.op (.waitDma2 s.sem srcw m hsrc hdst) k) Q) := by
  unfold XIn
  rw [if_pos hg]
  exact owe_wait d i rfl

/-- The two waits for the results two groups back. -/
theorem out_waits {m13 : Memref sig .scVector .vmem S4x64x64 .f32} {s17 : DmaSems sig S_} {m11 : Memref sig .scVector .vmem S4x64 .f32} {s19 : DmaSems sig S_}
    {g : ℕ} (hg : 2 ≤ g) {off : Fin 3 → ℕ} {inb : ∀ a, off a + S4x64x64.size a ≤ S16384x64x64.size a}
    {off' : Fin 2 → ℕ} {inb' : ∀ a, off' a + S4x64.size a ≤ S16384x64.size a}
    {h1 : m13.view.WordExact} {h2 : (arg6.slice (Rect.unit (s := S16384x64x64) off S4x64x64.size inb) (fun _ => rfl)).view.WordExact}
    {h3 : m11.view.WordExact} {h4 : (arg5.slice (Rect.unit (s := S16384x64) off' S4x64.size inb') (fun _ => rfl)).view.WordExact}
    {k : PUnit → Prog (TpuEff nD τ sig (Elt F) Λ₀ (thr d i).2) α} :
    iprop(Outs d i X arg5 arg6 m13 s17 m11 s19 g ∗ Owe d i O W)
      ⊢ iprop((iprop(Idle d i m13 s17 m11 s19 ∗ Done d i X arg5 arg6 g ∗ Owe d i O W) -∗ wp frame (wpE defs₀ 𝒱₀ (thr d i) none) Set.univ (k ⟨⟩) Q)
          -∗ wp frame (wpE defs₀ 𝒱₀ (thr d i) none) Set.univ
            (.op (.waitDma2 s17.sem m13 (arg6.slice (Rect.unit (s := S16384x64x64) off S4x64x64.size inb) (fun _ => rfl)) h1 h2) fun _ =>
              .op (.waitDma2 s19.sem m11 (arg5.slice (Rect.unit (s := S16384x64) off' S4x64.size inb') (fun _ => rfl)) h3 h4) k) Q) := by
  unfold Outs Done
  rw [if_pos hg, if_pos hg]
  iintro ⟨⟨H1, H2⟩, HO⟩ Hk
  iapply (owe_wait d i (dstw := arg6.slice (Rect.unit (s := S16384x64x64) off S4x64x64.size inb) (fun _ => rfl)) rfl) $$ [H1 HO]
  · isplitl [H1]; · iexact H1
    iexact HO
  iintro ⟨⟨Hg, Hm⟩, Hv, HO⟩
  iapply (owe_wait d i (dstw := arg5.slice (Rect.unit (s := S16384x64) off' S4x64.size inb') (fun _ => rfl)) rfl) $$ [H2 HO]
  · isplitl [H2]; · iexact H2
    iexact HO
  iintro ⟨⟨Hg', Hm'⟩, Hv', HO⟩
  iapply Hk
  unfold Idle
  isplitl [Hm Hv Hm' Hv']
  · isplitl [Hm]
    · iexists (outVal (blk i X (g - 2)))
      isplitr
      · ipureintro; exact upper_outVal _
      · iexact Hm
    isplitl [Hv]; · iexact Hv
    isplitl [Hm']
    · iexists _; iexact Hm'
    iexact Hv'
  isplitl [Hg Hg']
  · isplitl [Hg]; · iexact Hg
    iexact Hg'
  iexact HO

/-- The same where the program makes the waits from the second pair of groups on. -/
theorem out_waits_if {m13 : Memref sig .scVector .vmem S4x64x64 .f32} {s17 : DmaSems sig S_} {m11 : Memref sig .scVector .vmem S4x64 .f32} {s19 : DmaSems sig S_}
    {g : ℕ} {C : Prop} [hdec : Decidable C] (hC : C ↔ 2 ≤ g) {off : Fin 3 → ℕ} {inb : C → ∀ a, off a + S4x64x64.size a ≤ S16384x64x64.size a}
    {off' : Fin 2 → ℕ} {inb' : C → ∀ a, off' a + S4x64.size a ≤ S16384x64.size a}
    {h1 : m13.view.WordExact} {h2 : ∀ h, (arg6.slice (Rect.unit (s := S16384x64x64) off S4x64x64.size (inb h)) (fun _ => rfl)).view.WordExact}
    {h3 : m11.view.WordExact} {h4 : ∀ h, (arg5.slice (Rect.unit (s := S16384x64) off' S4x64.size (inb' h)) (fun _ => rfl)).view.WordExact}
    {k : Prog (TpuEff nD τ sig (Elt F) Λ₀ (thr d i).2) α} :
    iprop(Outs d i X arg5 arg6 m13 s17 m11 s19 g ∗ Owe d i O W)
      ⊢ iprop((iprop(Idle d i m13 s17 m11 s19 ∗ Done d i X arg5 arg6 g ∗ Owe d i O W) -∗ wp frame (wpE defs₀ 𝒱₀ (thr d i) none) Set.univ k Q)
          -∗ wp frame (wpE defs₀ 𝒱₀ (thr d i) none) Set.univ
            (if h : C then .op (.waitDma2 s17.sem m13 (arg6.slice (Rect.unit (s := S16384x64x64) off S4x64x64.size (inb h)) (fun _ => rfl)) h1 (h2 h)) fun _ =>
              .op (.waitDma2 s19.sem m11 (arg5.slice (Rect.unit (s := S16384x64) off' S4x64.size (inb' h)) (fun _ => rfl)) h3 (h4 h)) fun _ => k
            else k) Q) := by
  by_cases h : C
  · rw [dif_pos h]
    exact out_waits d i X arg5 arg6 (k := fun _ => k) (hC.mp h)
  · rw [dif_neg h]
    unfold Outs Done
    rw [if_neg (fun h' => h (hC.mpr h')), if_neg (fun h' => h (hC.mpr h'))]
    iintro ⟨H, HO⟩ Hk
    iapply Hk
    isplitl [H]; · iexact H
    isplitl []; · iempintro
    iexact HO

/-! ## The transfers started -/

/-- A group of the argument sent for. -/
theorem x_start {m : Memref sig .scVector .vmem S4x2144 .f32} {s : DmaSems sig S_} {g : ℕ} (hg : g < 128) {y : S4x2144.Idx → F .f32}
    {off : Fin 2 → ℕ} (hoff : off = ![base i g, 0]) {inb : ∀ a, off a + S4x2144.size a ≤ S16384x2144.size a}
    {h1 : (arg2.slice (Rect.unit (s := S16384x2144) off S4x2144.size inb) (fun _ => rfl)).view.WordExact} {h2 : m.view.WordExact}
    {h3 : DmaTarget.Typed (nD := nD) (τ := τ) (p := (thr d i).2) .hbm (.dma s.sem) (.here m)} {k : PUnit → Prog (TpuEff nD τ sig (Elt F) Λ₀ (thr d i).2) α} :
    iprop(HX d i X arg2 g ∗ Has (e := .f32) (thr d i) m fullShare y ∗ semVal (thr d i, .dma s.sem) 0)
      ⊢ iprop((XIn d i X arg2 m s g -∗ wp frame (wpE defs₀ 𝒱₀ (thr d i) none) Set.univ (k ⟨⟩) Q)
          -∗ wp frame (wpE defs₀ 𝒱₀ (thr d i) none) Set.univ
            (.op (.enqueueDma (arg2.slice (Rect.unit (s := S16384x2144) off S4x2144.size inb) (fun _ => rfl)) (.here m) (.dma s.sem) h1 h2 h3) k) Q) := by
  subst hoff
  unfold XIn HX
  rw [if_pos hg]
  exact has_dma 𝒱₀ (thr d i) none EC none rfl (by decide)

/-- The next group of the argument sent for, if there is one. -/
theorem x_next {m : Memref sig .scVector .vmem S4x2144 .f32} {s : DmaSems sig S_} {g : ℕ} {C : Prop} [hdec : Decidable C] (hC : C ↔ g < 128) {y : S4x2144.Idx → F .f32}
    {off : Fin 2 → ℕ} (hoff : C → off = ![base i g, 0]) {inb : C → ∀ a, off a + S4x2144.size a ≤ S16384x2144.size a}
    {h1 : ∀ h, (arg2.slice (Rect.unit (s := S16384x2144) off S4x2144.size (inb h)) (fun _ => rfl)).view.WordExact} {h2 : m.view.WordExact}
    {h3 : DmaTarget.Typed (nD := nD) (τ := τ) (p := (thr d i).2) .hbm (.dma s.sem) (.here m)} {k : Prog (TpuEff nD τ sig (Elt F) Λ₀ (thr d i).2) α} :
    iprop(NextX d i X arg2 g ∗ Has (e := .f32) (thr d i) m fullShare y ∗ semVal (thr d i, .dma s.sem) 0)
      ⊢ iprop((XIn d i X arg2 m s g -∗ wp frame (wpE defs₀ 𝒱₀ (thr d i) none) Set.univ k Q)
          -∗ wp frame (wpE defs₀ 𝒱₀ (thr d i) none) Set.univ
            (if h : C then .op (.enqueueDma (arg2.slice (Rect.unit (s := S16384x2144) off S4x2144.size (inb h)) (fun _ => rfl)) (.here m) (.dma s.sem) (h1 h) h2 h3) fun _ => k
            else k) Q) := by
  unfold NextX
  by_cases h : C
  · rw [dif_pos h, if_pos (hC.mp h)]
    exact x_start d i X arg2 (k := fun _ => k) (hC.mp h) (hoff h)
  · rw [dif_neg h, if_neg (fun h' => h (hC.mpr h'))]
    unfold XIn
    rw [if_neg (fun h' => h (hC.mpr h'))]
    iintro ⟨_, H, Hv⟩ Hk
    iapply Hk
    isplitl [H]
    · iexists y; iexact H
    iexact Hv

/-- A group of the results sent out. -/
theorem out_start {m13 : Memref sig .scVector .vmem S4x64x64 .f32} {s17 : DmaSems sig S_} {m11 : Memref sig .scVector .vmem S4x64 .f32} {s19 : DmaSems sig S_} {g : ℕ}
    {off : Fin 3 → ℕ} (hoff : off = ![base i g, 0, 0]) {inb : ∀ a, off a + S4x64x64.size a ≤ S16384x64x64.size a}
    {off' : Fin 2 → ℕ} (hoff' : off' = ![base i g, 0]) {inb' : ∀ a, off' a + S4x64.size a ≤ S16384x64.size a}
    {h1 : m13.view.WordExact} {h2 : (arg6.slice (Rect.unit (s := S16384x64x64) off S4x64x64.size inb) (fun _ => rfl)).view.WordExact}
    {h3 : m11.view.WordExact} {h4 : (arg5.slice (Rect.unit (s := S16384x64) off' S4x64.size inb') (fun _ => rfl)).view.WordExact}
    {h5 : DmaTarget.Typed (nD := nD) (τ := τ) (p := (thr d i).2) .vmem (.dma s17.sem) (.here (arg6.slice (Rect.unit (s := S16384x64x64) off S4x64x64.size inb) (fun _ => rfl)))}
    {h6 : DmaTarget.Typed (nD := nD) (τ := τ) (p := (thr d i).2) .vmem (.dma s19.sem) (.here (arg5.slice (Rect.unit (s := S16384x64) off' S4x64.size inb') (fun _ => rfl)))}
    {k : PUnit → Prog (TpuEff nD τ sig (Elt F) Λ₀ (thr d i).2) α} :
    iprop((HasFilled (thr d i) m13 (blk i X g) 130 0 ∗ semVal (thr d i, .dma s17.sem) 0) ∗ (HasCopied (thr d i) m11 (blk i X g) 16 ∗ semVal (thr d i, .dma s19.sem) 0) ∗ HLO0 d i arg5 arg6 g)
      ⊢ iprop((Outs d i X arg5 arg6 m13 s17 m11 s19 (g + 2) -∗ wp frame (wpE defs₀ 𝒱₀ (thr d i) none) Set.univ (k ⟨⟩) Q)
          -∗ wp frame (wpE defs₀ 𝒱₀ (thr d i) none) Set.univ
            (.op (.enqueueDma m13 (.here (arg6.slice (Rect.unit (s := S16384x64x64) off S4x64x64.size inb) (fun _ => rfl))) (.dma s17.sem) h1 h2 h5) fun _ =>
              .op (.enqueueDma m11 (.here (arg5.slice (Rect.unit (s := S16384x64) off' S4x64.size inb') (fun _ => rfl))) (.dma s19.sem) h3 h4 h6) k) Q) := by
  subst hoff hoff'
  unfold Outs HLO0 HasFilled HasCopied HO HL oAt lAt
  rw [if_pos (by omega : 2 ≤ g + 2), show g + 2 - 2 = g by omega]
  iintro ⟨⟨⟨%z, %hz, H13⟩, Hv⟩, ⟨⟨%z', %hz', H11⟩, Hv'⟩, ⟨%y, HL⟩, %y', HO⟩ Hk
  obtain rfl := hz.done
  obtain rfl := hz'.done
  iapply (has_dma 𝒱₀ (thr d i) none EC none (dst := arg6.slice (Rect.unit (s := S16384x64x64) ![base i g, 0, 0] S4x64x64.size inb) (fun _ => rfl)) (y := y') rfl (show 0 < S4x64x64.numel by decide)) $$ [H13 HO Hv]
  · isplitl [H13]; · iexact H13
    isplitl [HO]; · iexact HO
    iexact Hv
  iintro HF
  iapply (has_dma 𝒱₀ (thr d i) none EC none (dst := arg5.slice (Rect.unit (s := S16384x64) ![base i g, 0] S4x64.size inb') (fun _ => rfl)) (y := y) rfl (show 0 < S4x64.numel by decide)) $$ [H11 HL Hv']
  · isplitl [H11]; · iexact H11
    isplitl [HL]; · iexact HL
    iexact Hv'
  iintro HF'
  iapply Hk
  isplitl [HF]; · iexact HF
  iexact HF'

end Cert.Proof.KI

end
-- ==== Proof.IdealCopy.lean ====
/-
  The parts of a main-loop trip that only copy the leading entries, a piece of sixteen at a time.
-/
module

public import proofs.«01_k».proof.Proof.IdealState

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

variable (x : S4x2144.Idx → F .f32)

/-- The four rows, and the leading block with its first `n` pieces copied from them. -/
def CopyRes (m : Memref sig .scVector .vmem S4x2144 .f32) (l : Memref sig .scVector .vmem S4x64 .f32) (n : ℕ) : sProp 𝕄 :=
  iprop(Has (e := .f32) (thr d i) m fullShare x ∗ HasCopied (thr d i) l x n)

theorem copy_part4 (c : BitVec 32) :
    CopyRes d i x arg7 arg11 3
      ⊢ wp (M := 𝕄) frame (wpE defs₀ 𝒱₀ (thr d i) none) Set.univ (k0_part4 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 c)
          fun r => iprop(⌜∃ inb, r.1 = shapeCast S16 (VecWindow.window (s := S4x2144) x ![2, 16 * 0] S1x16.size inb) shapeCasts_S1x16_S16⌝ ∗ CopyRes d i x arg7 arg11 8) := by
  unfold CopyRes
  rw [k0_part4_eq_skeleton, k0_part4_skel]
  simp only [Prog.lift, Prog.bind_op, Prog.bind_ret, Prog.pure_eq_ret, k0_pay14, k0_pay15, k0_pay16, k0_pay17, k0_pay18, k0_pay19]
  iintro H
  iapply (copy_piece 𝒱₀ (thr d i) none 0 3 (by decide) (by decide) rfl rfl rfl) $$ H
  iintro H
  iapply (copy_piece 𝒱₀ (thr d i) none 1 0 (by decide) (by decide) rfl rfl rfl) $$ H
  iintro H
  iapply (copy_piece 𝒱₀ (thr d i) none 1 1 (by decide) (by decide) rfl rfl rfl) $$ H
  iintro H
  iapply (copy_piece 𝒱₀ (thr d i) none 1 2 (by decide) (by decide) rfl rfl rfl) $$ H
  iintro H
  iapply (copy_piece 𝒱₀ (thr d i) none 1 3 (by decide) (by decide) rfl rfl rfl) $$ H
  iintro H
  icases H with ⟨Hx, Ho⟩
  iapply (has_load 𝒱₀ (thr d i) none rfl inb_S4x2144_S1x16_2_0) $$ Hx
  iintro Hx
  rw [wp_ret]
  imodintro
  isplitr
  · ipureintro; exact ⟨inb_S4x2144_S1x16_2_0, rfl⟩
  isplitl [Hx]; · iexact Hx
  iexact Ho

theorem copy_part5 (c : BitVec 32) (v : Vec F S16 .f32) (hv : ∃ inb, v = shapeCast S16 (VecWindow.window (s := S4x2144) x ![2, 16 * 0] S1x16.size inb) shapeCasts_S1x16_S16) :
    CopyRes d i x arg7 arg11 8
      ⊢ wp (M := 𝕄) frame (wpE defs₀ 𝒱₀ (thr d i) none) Set.univ (k0_part5 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v c)
          fun _ => CopyRes d i x arg7 arg11 14 := by
  unfold CopyRes
  rw [k0_part5_eq_skeleton, k0_part5_skel]
  simp only [Prog.lift, Prog.bind_op, Prog.bind_ret, Prog.pure_eq_ret, k0_pay20, k0_pay21, k0_pay22, k0_pay23, k0_pay24]
  obtain ⟨inb, rfl⟩ := hv
  iintro ⟨Hx, Ho⟩
  iapply (copy_store 𝒱₀ (thr d i) none (r := 2) (q := 0) (by decide) (by decide) rfl rfl inb) $$ Ho
  iintro Ho
  icombine Hx Ho as H
  iapply (copy_piece 𝒱₀ (thr d i) none 2 1 (by decide) (by decide) rfl rfl rfl) $$ H
  iintro H
  iapply (copy_piece 𝒱₀ (thr d i) none 2 2 (by decide) (by decide) rfl rfl rfl) $$ H
  iintro H
  iapply (copy_piece 𝒱₀ (thr d i) none 2 3 (by decide) (by decide) rfl rfl rfl) $$ H
  iintro H
  iapply (copy_piece 𝒱₀ (thr d i) none 3 0 (by decide) (by decide) rfl rfl rfl) $$ H
  iintro H
  iapply (copy_piece 𝒱₀ (thr d i) none 3 1 (by decide) (by decide) rfl rfl rfl) $$ H
  iintro H
  rw [wp_ret]
  imodintro
  iexact H

theorem copy_part8 :
    CopyRes d i x arg8 arg12 4
      ⊢ wp (M := 𝕄) frame (wpE defs₀ 𝒱₀ (thr d i) none) Set.univ (k0_part8 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1)
          fun r => iprop(⌜∃ inb, r = shapeCast S16 (VecWindow.window (s := S4x2144) x ![2, 16 * 1] S1x16.size inb) shapeCasts_S1x16_S16⌝ ∗ CopyRes d i x arg8 arg12 9) := by
  unfold CopyRes
  rw [k0_part8_eq_skeleton, k0_part8_skel]
  simp only [Prog.lift, Prog.bind_op, Prog.bind_ret, Prog.pure_eq_ret, k0_pay32, k0_pay33, k0_pay34, k0_pay35, k0_pay36, k0_pay37]
  iintro H
  iapply (copy_piece 𝒱₀ (thr d i) none 1 0 (by decide) (by decide) rfl rfl rfl) $$ H
  iintro H
  iapply (copy_piece 𝒱₀ (thr d i) none 1 1 (by decide) (by decide) rfl rfl rfl) $$ H
  iintro H
  iapply (copy_piece 𝒱₀ (thr d i) none 1 2 (by decide) (by decide) rfl rfl rfl) $$ H
  iintro H
  iapply (copy_piece 𝒱₀ (thr d i) none 1 3 (by decide) (by decide) rfl rfl rfl) $$ H
  iintro H
  iapply (copy_piece 𝒱₀ (thr d i) none 2 0 (by decide) (by decide) rfl rfl rfl) $$ H
  iintro H
  icases H with ⟨Hx, Ho⟩
  iapply (has_load 𝒱₀ (thr d i) none rfl inb_S4x2144_S1x16_2_16) $$ Hx
  iintro Hx
  rw [wp_ret]
  imodintro
  isplitr
  · ipureintro; exact ⟨inb_S4x2144_S1x16_2_16, rfl⟩
  isplitl [Hx]; · iexact Hx
  iexact Ho

theorem copy_part9 (v : Vec F S16 .f32) (hv : ∃ inb, v = shapeCast S16 (VecWindow.window (s := S4x2144) x ![2, 16 * 1] S1x16.size inb) shapeCasts_S1x16_S16) :
    CopyRes d i x arg8 arg12 9
      ⊢ wp (M := 𝕄) frame (wpE defs₀ 𝒱₀ (thr d i) none) Set.univ (k0_part9 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v)
          fun _ => CopyRes d i x arg8 arg12 15 := by
  unfold CopyRes
  rw [k0_part9_eq_skeleton, k0_part9_skel]
  simp only [Prog.lift, Prog.bind_op, Prog.bind_ret, Prog.pure_eq_ret, k0_pay38, k0_pay39, k0_pay40, k0_pay41, k0_pay42]
  obtain ⟨inb, rfl⟩ := hv
  iintro ⟨Hx, Ho⟩
  iapply (copy_store 𝒱₀ (thr d i) none (r := 2) (q := 1) (by decide) (by decide) rfl rfl inb) $$ Ho
  iintro Ho
  icombine Hx Ho as H
  iapply (copy_piece 𝒱₀ (thr d i) none 2 2 (by decide) (by decide) rfl rfl rfl) $$ H
  iintro H
  iapply (copy_piece 𝒱₀ (thr d i) none 2 3 (by decide) (by decide) rfl rfl rfl) $$ H
  iintro H
  iapply (copy_piece 𝒱₀ (thr d i) none 3 0 (by decide) (by decide) rfl rfl rfl) $$ H
  iintro H
  iapply (copy_piece 𝒱₀ (thr d i) none 3 1 (by decide) (by decide) rfl rfl rfl) $$ H
  iintro H
  iapply (copy_piece 𝒱₀ (thr d i) none 3 2 (by decide) (by decide) rfl rfl rfl) $$ H
  iintro H
  rw [wp_ret]
  imodintro
  iexact H

end Cert.Proof.KI

end
-- ==== Proof.IdealTrip.lean ====
/-
  One trip of the main loop: two groups of four rows, the even one through the first blocks and the odd one through the
  second.
-/
module

public import proofs.«01_k».proof.Proof.IdealCopy

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

variable (X : S16384x2144.Idx → F .f32) (T1 T2 : S2080.Idx → BitVec 32)

/-! ## The loop that scatters -/

/-- The two tables. -/
def Tab (t1 t2 : Memref sig .scVector .vmem S2080 .i32) : sProp 𝕄 :=
  iprop(Has (e := .i32) (thr d i) t1 fullShare T1 ∗ Has (e := .i32) (thr d i) t2 fullShare T2)

theorem trips6 : k0_t6_loop.trips = 130 := by decide +kernel

variable {T1 T2} in
theorem fill_loop (hT : TblOK T1 T2) {x : S4x2144.Idx → F .f32} (k0_t5 : Fin k0_t5_loop.trips) (v2 c0 c1 : BitVec 32) :
    iprop(Tab d i T1 T2 arg9 arg10 ∗ Has (e := .f32) (thr d i) arg7 fullShare x ∗ HasFilled (thr d i) arg13 x 0 0)
      ⊢ wp (M := 𝕄) frame (wpE defs₀ 𝒱₀ (thr d i) none) Set.univ (Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 k0_t5))
          fun _ => iprop(Tab d i T1 T2 arg9 arg10 ∗ Has (e := .f32) (thr d i) arg7 fullShare x ∗ HasFilled (thr d i) arg13 x 130 0) := by
  iintro H
  iapply (Scf.wp_for frame (wpE defs₀ 𝒱₀ (thr d i) none) Set.univ k0_t6_loop.lb k0_t6_loop.ub k0_t6_loop.st k0_t6_ok ⟨⟩
    (k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 k0_t5)
    (fun k _ => ChunkRes d i arg9 arg10 arg7 arg13 T1 T2 x k 0) (fun k _ => chunk_trip d i hT k0_t5 v2 c0 c1 k))
  rw [show Scf.trips k0_t6_loop.lb k0_t6_loop.ub k0_t6_loop.st = 130 from trips6]
  unfold ChunkRes Tab
  isplitl [H]; · iexact H
  iintro %_ H
  iexact H

/-! ## The two halves of a trip -/

variable {O : CellTallies nD τ sig (HIx 1)} {W : Waits sig (HIx 1)}

/-- Group `g` in the middle of its work: the square block filled, `n` pieces of the leading block copied. -/
def Mid (t1 t2 : Memref sig .scVector .vmem S2080 .i32) (a : Memref sig .scVector .hbm S16384x2144 .f32) (b : Memref sig .scVector .hbm S16384x64 .f32) (c : Memref sig .scVector .hbm S16384x64x64 .f32)
    (m : Memref sig .scVector .vmem S4x2144 .f32) (l : Memref sig .scVector .vmem S4x64 .f32)
    (o : Memref sig .scVector .vmem S4x64x64 .f32) (s s' s'' : DmaSems sig S_) (O : CellTallies nD τ sig (HIx 1)) (W : Waits sig (HIx 1)) (g n : ℕ) : sProp 𝕄 :=
  iprop(CopyRes d i (blk i X g) m l n ∗ Tab d i T1 T2 t1 t2
    ∗ (HasFilled (thr d i) o (blk i X g) 130 0 ∗ semVal (thr d i, .dma s.sem) 0 ∗ semVal (thr d i, .dma s'.sem) 0 ∗ semVal (thr d i, .dma s''.sem) 0)
    ∗ HX d i X a g ∗ Done d i X b c g ∗ Owe d i O W)

theorem cond1 : ∀ t : Fin k0_t5_loop.trips, k0_cond1 t = 1#1 ↔ 2 ≤ 2 * t.val := by decide +kernel
theorem cond2 : ∀ t : Fin k0_t5_loop.trips, k0_cond2 t = 1#1 ↔ 2 * t.val + 2 < 128 := by decide +kernel
theorem cond3 : ∀ t : Fin k0_t5_loop.trips, k0_cond3 t = 1#1 ↔ 2 ≤ 2 * t.val + 1 := by decide +kernel
theorem cond4 : ∀ t : Fin k0_t5_loop.trips, k0_cond4 t = 1#1 ↔ 2 * t.val + 1 + 2 < 128 := by decide +kernel

theorem t5_lt (t : Fin k0_t5_loop.trips) : t.val < 64 := lt_of_lt_of_le t.isLt k0_t5_abs.2.1

theorem base_eq (t : Fin k0_t5_loop.trips) {r n : ℕ} (hn : 2 * t.val + r < 128) (h : n = 8 * t.val + 4 * r) :
    1024 * (i 1).val + 512 * (i 0).val + n = base i (2 * t.val + r) := by
  unfold base; rw [Nat.mod_eq_of_lt hn]; omega

theorem off26 (t : Fin k0_t5_loop.trips) (r : Fin 2) : k0_off26 i t (BitVec.ofNat 32 r.val) = ![base i (2 * t.val + r.val), 0, 0] := by
  have ht := t5_lt t
  rw [k0_off26_eq, ← base_eq i t (by omega) rfl, Nat.add_assoc]
theorem off27 (t : Fin k0_t5_loop.trips) (r : Fin 2) : k0_off27 i t (BitVec.ofNat 32 r.val) = ![base i (2 * t.val + r.val), 0] := by
  have ht := t5_lt t
  rw [k0_off27_eq, ← base_eq i t (by omega) rfl, Nat.add_assoc]
theorem off28 (t : Fin k0_t5_loop.trips) (h : k0_cond2 t = 1#1) : k0_off28 i t = ![base i (2 * t.val + 2), 0] := by
  rw [k0_off28_eq, ← base_eq i t ((cond2 t).mp h) rfl, Nat.add_assoc]
theorem off36 (t : Fin k0_t5_loop.trips) (h : k0_cond4 t = 1#1) : k0_off36 i t = ![base i (2 * t.val + 1 + 2), 0] := by
  rw [k0_off36_eq, Nat.add_assoc (2 * t.val), ← base_eq i t ((cond4 t).mp h) rfl, Nat.add_assoc]

variable {T1 T2}

theorem part3 (hT : TblOK T1 T2) (t : Fin k0_t5_loop.trips) (v2 c0 c1 : BitVec 32) :
    iprop(Tab d i T1 T2 arg9 arg10 ∗ XIn d i X arg2 arg7 arg15 (2 * t.val) ∗ Outs d i X arg5 arg6 arg13 arg17 arg11 arg19 (2 * t.val) ∗ Owe d i O W)
      ⊢ wp (M := 𝕄) frame (wpE defs₀ 𝒱₀ (thr d i) none) Set.univ (k0_part3 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 t)
          fun _ => Mid d i X T1 T2 arg9 arg10 arg2 arg5 arg6 arg7 arg11 arg13 arg15 arg17 arg19 O W (2 * t.val) 3 := by
  have ht := t5_lt t
  rw [k0_part3_eq_skeleton, k0_part3_skel]
  simp only [Prog.lift, Prog.bind_op, Prog.bind_ret, Prog.pure_eq_ret, k0_pay11, k0_pay12, k0_pay13]
  iintro ⟨HT, HX, HO, HW⟩
  iapply (x_wait d i X arg2 (g := 2 * t.val) (by omega)) $$ [HX HW]
  · isplitl [HX]; · iexact HX
    iexact HW
  iintro ⟨⟨Hx, HX⟩, Hs, HW⟩
  iapply (out_waits_if d i X arg5 arg6 (cond1 t)) $$ [HO HW]
  · isplitl [HO]; · iexact HO
    iexact HW
  unfold Idle
  iintro ⟨⟨⟨%y, %hy, Ho⟩, Hs', ⟨%z, Hl⟩, Hs''⟩, HD, HW⟩
  rw [wp_bind]
  iapply (wp_wand_r frame (wpE defs₀ 𝒱₀ (thr d i) none) Set.univ)
  isplitl [HT Hx Ho]
  · iapply (fill_loop d i (x := blk i X (2 * t.val)) hT t v2 c0 c1)
    isplitl [HT]; · iexact HT
    isplitl [Hx]; · iexact Hx
    unfold HasFilled
    iexists y
    isplitr
    · ipureintro; exact filled_zero hy
    · iexact Ho
  iintro %_ ⟨HT, Hx, Ho⟩
  ihave H := (show iprop(Has (e := .f32) (thr d i) arg7 fullShare (blk i X (2 * t.val)) ∗ Has (e := .f32) (thr d i) arg11 fullShare z)
      ⊢ (iprop(Has (e := .f32) (thr d i) arg7 fullShare (blk i X (2 * t.val)) ∗ HasCopied (thr d i) arg11 (blk i X (2 * t.val)) 0) : sProp 𝕄) from
    sep_mono .rfl (by
      unfold HasCopied
      iintro H
      iexists z
      isplitr
      · ipureintro; exact copied_zero _ _
      · iexact H)) $$ [Hx Hl]
  · isplitl [Hx]; · iexact Hx
    iexact Hl
  iapply (copy_piece 𝒱₀ (thr d i) none 0 0 (by decide) (by decide) rfl rfl rfl) $$ H
  iintro H
  iapply (copy_piece 𝒱₀ (thr d i) none 0 1 (by decide) (by decide) rfl rfl rfl) $$ H
  iintro H
  iapply (copy_piece 𝒱₀ (thr d i) none 0 2 (by decide) (by decide) rfl rfl rfl) $$ H
  iintro H
  rw [wp_ret]
  imodintro
  unfold Mid CopyRes
  isplitl [H]; · iexact H
  isplitl [HT]; · iexact HT
  isplitl [Ho Hs Hs' Hs'']
  · isplitl [Ho]; · iexact Ho
    isplitl [Hs]; · iexact Hs
    isplitl [Hs']; · iexact Hs'
    iexact Hs''
  isplitl [HX]; · iexact HX
  isplitl [HD]; · iexact HD
  iexact HW

end Cert.Proof.KI

end
-- ==== Proof.IdealGroup.lean ====
/-
  One trip of the main loop, put together: the end of the even group, the odd group, and the two in sequence.
-/
module

public import proofs.«01_k».proof.Proof.IdealTrip

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

variable (X : S16384x2144.Idx → F .f32) {T1 T2 : S2080.Idx → BitVec 32}
variable {O : CellTallies nD τ sig (HIx 1)} {W : Waits sig (HIx 1)}

theorem part6 (t : Fin k0_t5_loop.trips) (v2 a21 v28 : BitVec 32) :
    iprop(Mid d i X T1 T2 arg9 arg10 arg2 arg5 arg6 arg7 arg11 arg13 arg15 arg17 arg19 O W (2 * t.val) 14
        ∗ HLO0 d i arg5 arg6 (2 * t.val) ∗ NextX d i X arg2 (2 * t.val + 2) ∗ XIn d i X arg2 arg8 arg16 (2 * t.val + 1))
      ⊢ wp (M := 𝕄) frame (wpE defs₀ 𝒱₀ (thr d i) none) Set.univ (k0_part6 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 t a21 v28)
          fun _ => iprop((XIn d i X arg2 arg7 arg15 (2 * t.val + 2) ∗ Outs d i X arg5 arg6 arg13 arg17 arg11 arg19 (2 * t.val + 2)
              ∗ HX d i X arg2 (2 * t.val) ∗ Done d i X arg5 arg6 (2 * t.val))
            ∗ Tab d i T1 T2 arg9 arg10
            ∗ ((Has (e := .f32) (thr d i) arg8 fullShare (blk i X (2 * t.val + 1)) ∗ HX d i X arg2 (2 * t.val + 1)) ∗ semVal (thr d i, .dma arg16.sem) 0 ∗ Owe d i O W)) := by
  have ht := t5_lt t
  rw [k0_part6_eq_skeleton, k0_part6_skel]
  simp only [Prog.lift, Prog.bind_op, Prog.bind_ret, Prog.pure_eq_ret, k0_pay25, k0_pay26]
  unfold Mid CopyRes
  iintro ⟨⟨H, HT, ⟨Ho, Hs, Hs', Hs''⟩, HX, HD, HW⟩, HL, HN, HX8⟩
  iapply (copy_piece 𝒱₀ (thr d i) none 3 2 (by decide) (by decide) rfl rfl rfl) $$ H
  iintro H
  iapply (copy_piece 𝒱₀ (thr d i) none 3 3 (by decide) (by decide) rfl rfl rfl) $$ H
  iintro ⟨Hx, Hl⟩
  iapply (out_start d i X arg5 arg6 (g := 2 * t.val) (off26 i t 0) (off27 i t 0)) $$ [Ho Hs' Hl Hs'' HL]
  · isplitl [Ho Hs']
    · isplitl [Ho]; · iexact Ho
      iexact Hs'
    isplitl [Hl Hs'']
    · isplitl [Hl]; · iexact Hl
      iexact Hs''
    iexact HL
  iintro HOut
  iapply (x_next d i X arg2 (g := 2 * t.val + 2) (cond2 t) (off28 i t)) $$ [HN Hx Hs]
  · isplitl [HN]; · iexact HN
    isplitl [Hx]; · iexact Hx
    iexact Hs
  iintro HX7
  iapply (x_wait d i X arg2 (g := 2 * t.val + 1) (by omega)) $$ [HX8 HW]
  · isplitl [HX8]; · iexact HX8
    iexact HW
  iintro H8
  rw [wp_ret]
  imodintro
  isplitl [HX7 HOut HX HD]
  · isplitl [HX7]; · iexact HX7
    isplitl [HOut]; · iexact HOut
    isplitl [HX]; · iexact HX
    iexact HD
  isplitl [HT]; · iexact HT
  iexact H8

theorem part7 (hT : TblOK T1 T2) (t : Fin k0_t5_loop.trips) (v2 v114 : BitVec 32) :
    iprop(Outs d i X arg5 arg6 arg14 arg18 arg12 arg20 (2 * t.val + 1) ∗ Tab d i T1 T2 arg9 arg10
        ∗ ((Has (e := .f32) (thr d i) arg8 fullShare (blk i X (2 * t.val + 1)) ∗ HX d i X arg2 (2 * t.val + 1)) ∗ semVal (thr d i, .dma arg16.sem) 0 ∗ Owe d i O W))
      ⊢ wp (M := 𝕄) frame (wpE defs₀ 𝒱₀ (thr d i) none) Set.univ (k0_part7 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 t v114)
          fun _ => Mid d i X T1 T2 arg9 arg10 arg2 arg5 arg6 arg8 arg12 arg14 arg16 arg18 arg20 O W (2 * t.val + 1) 4 := by
  have ht := t5_lt t
  rw [k0_part7_eq_skeleton, k0_part7_skel]
  simp only [Prog.lift, Prog.bind_op, Prog.bind_ret, Prog.pure_eq_ret, k0_pay28, k0_pay29, k0_pay30, k0_pay31]
  iintro ⟨HO, HT, ⟨Hx, HX⟩, Hs, HW⟩
  iapply (out_waits_if d i X arg5 arg6 (cond3 t)) $$ [HO HW]
  · isplitl [HO]; · iexact HO
    iexact HW
  unfold Idle
  iintro ⟨⟨⟨%y, %hy, Ho⟩, Hs', ⟨%z, Hl⟩, Hs''⟩, HD, HW⟩
  rw [wp_bind]
  iapply (wp_wand_r frame (wpE defs₀ 𝒱₀ (thr d i) none) Set.univ)
  isplitl [HT Hx Ho]
  · rw [show k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 t v114 = k0_t6_body (F := F) i arg2 harg2 arg3 harg3 arg4 harg4 arg5 harg5 arg6 harg6 arg8 harg8 arg7 harg7 arg9 harg9 arg10 harg10 arg11 harg11 arg12 harg12 arg14 harg14 arg13 harg13 arg15 arg16 arg17 arg18 arg19 arg20 v27_r0 v27_r1 v2 0#32 0#32 t from
      funext fun k => funext fun _ => chunk_swap i t v2 v114 0#32 0#32 k]
    iapply (fill_loop d i (x := blk i X (2 * t.val + 1)) hT t v2 0#32 0#32)
    isplitl [HT]; · iexact HT
    isplitl [Hx]; · iexact Hx
    unfold HasFilled
    iexists y
    isplitr
    · ipureintro; exact filled_zero hy
    · iexact Ho
  iintro %_ ⟨HT, Hx, Ho⟩
  ihave H := (show iprop(Has (e := .f32) (thr d i) arg8 fullShare (blk i X (2 * t.val + 1)) ∗ Has (e := .f32) (thr d i) arg12 fullShare z)
      ⊢ (iprop(Has (e := .f32) (thr d i) arg8 fullShare (blk i X (2 * t.val + 1)) ∗ HasCopied (thr d i) arg12 (blk i X (2 * t.val + 1)) 0) : sProp 𝕄) from
    sep_mono .rfl (by
      unfold HasCopied
      iintro H
      iexists z
      isplitr
      · ipureintro; exact copied_zero _ _
      · iexact H)) $$ [Hx Hl]
  · isplitl [Hx]; · iexact Hx
    iexact Hl
  iapply (copy_piece 𝒱₀ (thr d i) none 0 0 (by decide) (by decide) rfl rfl rfl) $$ H
  iintro H
  iapply (copy_piece 𝒱₀ (thr d i) none 0 1 (by decide) (by decide) rfl rfl rfl) $$ H
  iintro H
  iapply (copy_piece 𝒱₀ (thr d i) none 0 2 (by decide) (by decide) rfl rfl rfl) $$ H
  iintro H
  iapply (copy_piece 𝒱₀ (thr d i) none 0 3 (by decide) (by decide) rfl rfl rfl) $$ H
  iintro H
  rw [wp_ret]
  imodintro
  unfold Mid CopyRes
  isplitl [H]; · iexact H
  isplitl [HT]; · iexact HT
  isplitl [Ho Hs Hs' Hs'']
  · isplitl [Ho]; · iexact Ho
    isplitl [Hs]; · iexact Hs
    isplitl [Hs']; · iexact Hs'
    iexact Hs''
  isplitl [HX]; · iexact HX
  isplitl [HD]; · iexact HD
  iexact HW

/-- What is in flight before trip `t`, with what the tile owes and the tables. -/
def Core (t1 t2 : Memref sig .scVector .vmem S2080 .i32) (a : Memref sig .scVector .hbm S16384x2144 .f32) (b : Memref sig .scVector .hbm S16384x64 .f32) (c : Memref sig .scVector .hbm S16384x64x64 .f32)
    (m m' : Memref sig .scVector .vmem S4x2144 .f32) (l l' : Memref sig .scVector .vmem S4x64 .f32) (o o' : Memref sig .scVector .vmem S4x64x64 .f32)
    (s15 s16 s17 s18 s19 s20 : DmaSems sig S_) (T1 T2 : S2080.Idx → BitVec 32) (O : CellTallies nD τ sig (HIx 1)) (W : Waits sig (HIx 1)) (t : ℕ) : sProp 𝕄 :=
  iprop((XIn d i X a m s15 (2 * t) ∗ XIn d i X a m' s16 (2 * t + 1))
    ∗ (Outs d i X b c o s17 l s19 (2 * t) ∗ Outs d i X b c o' s18 l' s20 (2 * t + 1))
    ∗ Tab d i T1 T2 t1 t2 ∗ Owe d i O W)

theorem trip (hT : TblOK T1 T2) (t : Fin k0_t5_loop.trips) (v2 c0 c1 : BitVec 32) :
    iprop(Core d i X arg9 arg10 arg2 arg5 arg6 arg7 arg8 arg11 arg12 arg13 arg14 arg15 arg16 arg17 arg18 arg19 arg20 T1 T2 O W t.val
        ∗ (NextX d i X arg2 (2 * t.val + 2) ∗ NextX d i X arg2 (2 * t.val + 1 + 2)) ∗ (HLO0 d i arg5 arg6 (2 * t.val) ∗ HLO0 d i arg5 arg6 (2 * t.val + 1)))
      ⊢ wp (M := 𝕄) frame (wpE defs₀ 𝒱₀ (thr d i) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 t ⟨⟩)
          fun _ => iprop(Core d i X arg9 arg10 arg2 arg5 arg6 arg7 arg8 arg11 arg12 arg13 arg14 arg15 arg16 arg17 arg18 arg19 arg20 T1 T2 O W (t.val + 1)
            ∗ (HX d i X arg2 (2 * t.val) ∗ HX d i X arg2 (2 * t.val + 1)) ∗ (Done d i X arg5 arg6 (2 * t.val) ∗ Done d i X arg5 arg6 (2 * t.val + 1))) := by
  have ht := t5_lt t
  unfold k0_t5_body Core
  simp only [Prog.lift, Prog.bind_op, Prog.bind_ret, Prog.pure_eq_ret, k0_pay1]
  iintro ⟨⟨⟨HX7, HX8⟩, ⟨HO, HO'⟩, HT, HW⟩, ⟨HN, HN'⟩, HL, HL'⟩
  rw [wp_bind]
  iapply (wp_wand_r frame (wpE defs₀ 𝒱₀ (thr d i) none) Set.univ)
  isplitl [HT HX7 HO HW]
  · iapply (part3 d i X hT t v2 c0 c1)
    isplitl [HT]; · iexact HT
    isplitl [HX7]; · iexact HX7
    isplitl [HO]; · iexact HO
    iexact HW
  unfold Mid
  iintro %r ⟨H, HM⟩
  obtain ⟨a21, v28, c⟩ := r
  dsimp only
  rw [wp_bind]
  iapply (wp_wand_r frame (wpE defs₀ 𝒱₀ (thr d i) none) Set.univ)
  isplitl [H]
  · iapply (copy_part4 d i _ c); iexact H
  iintro %r ⟨%hr, H⟩
  obtain ⟨v70, c'⟩ := r
  dsimp only at hr ⊢
  rw [wp_bind]
  iapply (wp_wand_r frame (wpE defs₀ 𝒱₀ (thr d i) none) Set.univ)
  isplitl [H]
  · iapply (copy_part5 d i _ c' v70 hr); iexact H
  iintro %_ H
  rw [wp_bind]
  iapply (wp_wand_r frame (wpE defs₀ 𝒱₀ (thr d i) none) Set.univ)
  isplitl [H HM HL HN HX8]
  · iapply (part6 d i X (T1 := T1) (T2 := T2) (O := O) (W := W) t v2 a21 v28)
    unfold Mid
    isplitl [H HM]
    · isplitl [H]; · iexact H
      iexact HM
    isplitl [HL]; · iexact HL
    isplitl [HN]; · iexact HN
    iexact HX8
  iintro %v114 ⟨⟨HX7, HO, HX, HD⟩, HT, H⟩
  rw [wp_bind]
  iapply (wp_wand_r frame (wpE defs₀ 𝒱₀ (thr d i) none) Set.univ)
  isplitl [HO' HT H]
  · iapply (part7 d i X hT t v2 v114)
    isplitl [HO']; · iexact HO'
    isplitl [HT]; · iexact HT
    iexact H
  unfold Mid
  iintro %_ ⟨H, HM⟩
  rw [wp_bind]
  iapply (wp_wand_r frame (wpE defs₀ 𝒱₀ (thr d i) none) Set.univ)
  isplitl [H]
  · iapply (copy_part8 d i _); iexact H
  iintro %v160 ⟨%hr', H⟩
  rw [wp_bind]
  iapply (wp_wand_r frame (wpE defs₀ 𝒱₀ (thr d i) none) Set.univ)
  isplitl [H]
  · iapply (copy_part9 d i _ v160 hr'); iexact H
  unfold CopyRes
  iintro %_ H
  iapply (copy_piece 𝒱₀ (thr d i) none 3 3 (by decide) (by decide) rfl rfl rfl) $$ H
  iintro ⟨Hx, Hl⟩
  icases HM with ⟨HT, ⟨Ho, Hs, Hs', Hs''⟩, HX', HD', HW⟩
  iapply (out_start d i X arg5 arg6 (g := 2 * t.val + 1) (off26 i t 1) (off27 i t 1)) $$ [Ho Hs' Hl Hs'' HL']
  · isplitl [Ho Hs']
    · isplitl [Ho]; · iexact Ho
      iexact Hs'
    isplitl [Hl Hs'']
    · isplitl [Hl]; · iexact Hl
      iexact Hs''
    iexact HL'
  iintro HO'
  iapply (x_next d i X arg2 (g := 2 * t.val + 1 + 2) (cond4 t) (off36 i t)) $$ [HN' Hx Hs]
  · isplitl [HN']; · iexact HN'
    isplitl [Hx]; · iexact Hx
    iexact Hs
  iintro HX8
  rw [wp_ret]
  imodintro
  rw [show 2 * (t.val + 1) = 2 * t.val + 2 by omega, show 2 * t.val + 2 + 1 = 2 * t.val + 1 + 2 by omega]
  isplitl [HX7 HX8 HO HO' HT HW]
  · isplitl [HX7 HX8]
    · isplitl [HX7]; · iexact HX7
      iexact HX8
    isplitl [HO HO']
    · isplitl [HO]; · iexact HO
      iexact HO'
    isplitl [HT]; · iexact HT
    iexact HW
  isplitl [HX HX']
  · isplitl [HX]; · iexact HX
    iexact HX'
  isplitl [HD]; · iexact HD
  iexact HD'

end Cert.Proof.KI

end
-- ==== Proof.IdealZero.lean ====
/-
  The loops that zero the two square blocks, a row of the block per trip.
-/
module

public import proofs.«01_k».proof.Proof.IdealChunk

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

/-- The two square blocks with their first `n` pieces zeroed. -/
def ZeroRes (o o' : Memref sig .scVector .vmem S4x64x64 .f32) (n : ℕ) : sProp 𝕄 :=
  iprop(HasZeroed (F := F) (thr d i) o n ∗ HasZeroed (thr d i) o' n)

/-- One piece zeroed in both blocks. -/
theorem zero_pair {Q : PUnit → sProp 𝕄} {n : ℕ} (r k q : ℕ) (hk : k < 64) (hq : q < 4) (hn : n = 4 * (64 * r + k) + q)
    {off : Fin 3 → ℕ} (hoff : off = ![r, k, 16 * q]) {inb : ∀ a, off a + S1x1x16.size a ≤ S4x64x64.size a}
    {hl : arg13.view.LoadsAt (Rect.unit (s := S4x64x64) off S1x1x16.size inb).toLoadRect}
    {hl' : arg14.view.LoadsAt (Rect.unit (s := S4x64x64) off S1x1x16.size inb).toLoadRect}
    {hx : (arg13.access (Rect.unit (s := S4x64x64) off S1x1x16.size inb)).Stores Finset.univ}
    {hx' : (arg14.access (Rect.unit (s := S4x64x64) off S1x1x16.size inb)).Stores Finset.univ}
    {hm hm' : (Finset.univ : Finset (Rect.unit (s := S4x64x64) off S1x1x16.size inb).shape.Idx) = Finset.univ
      ∨ ∀ a, (Rect.unit (s := S4x64x64) off S1x1x16.size inb).stride a = 1}
    {kk : PUnit → Prog (TpuEff nD τ sig (Elt F) Λ₀ (thr d i).2) PUnit} :
    ZeroRes d i arg13 arg14 n
      ⊢ iprop((ZeroRes d i arg13 arg14 (n + 1) -∗ wp frame (wpE defs₀ 𝒱₀ (thr d i) none) Set.univ (kk ⟨⟩) Q)
          -∗ wp frame (wpE defs₀ 𝒱₀ (thr d i) none) Set.univ
            (.op (.load arg13 (Rect.unit (s := S4x64x64) off S1x1x16.size inb).toLoadRect hl) fun _ =>
              .op (.store arg13 (Rect.unit (s := S4x64x64) off S1x1x16.size inb) (shapeCast S1x1x16 (k0_pay43 (F := F)) shapeCasts_S16_S1x1x16) Finset.univ hx hm) fun _ =>
              .op (.load arg14 (Rect.unit (s := S4x64x64) off S1x1x16.size inb).toLoadRect hl') fun _ =>
              .op (.store arg14 (Rect.unit (s := S4x64x64) off S1x1x16.size inb) (shapeCast S1x1x16 (k0_pay43 (F := F)) shapeCasts_S16_S1x1x16) Finset.univ hx' hm') kk) Q) := by
  unfold ZeroRes
  iintro ⟨H1, H2⟩ Hk
  iapply (zero_piece 𝒱₀ (thr d i) none r k q hk hq hn hoff (fun _ => rfl)) $$ H1
  iintro H1
  iapply (zero_piece 𝒱₀ (thr d i) none r k q hk hq hn hoff (fun _ => rfl)) $$ H2
  iintro H2
  iapply Hk
  isplitl [H1]; · iexact H1
  iexact H2

theorem zero_trip1 (k : Fin k0_t1_loop.trips) :
    ZeroRes d i arg13 arg14 (4 * (64 * 0 + k.val))
      ⊢ wp (M := 𝕄) frame (wpE defs₀ 𝒱₀ (thr d i) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 k ⟨⟩)
          fun _ => ZeroRes d i arg13 arg14 (4 * (64 * 0 + (k.val + 1))) := by
  have hk : k.val < 64 := lt_of_lt_of_le k.isLt k0_t1_abs.2.1
  unfold k0_t1_body
  simp only [Prog.lift, Prog.bind_op, Prog.bind_ret, Prog.pure_eq_ret]
  iintro H
  iapply (zero_pair d i 0 k.val 0 hk (by decide) rfl (k0_off1_eq k)) $$ H
  iintro H
  iapply (zero_pair d i 0 k.val 1 hk (by decide) rfl (k0_off2_eq k)) $$ H
  iintro H
  iapply (zero_pair d i 0 k.val 2 hk (by decide) rfl (k0_off3_eq k)) $$ H
  iintro H
  iapply (zero_pair d i 0 k.val 3 hk (by decide) rfl (k0_off4_eq k)) $$ H
  iintro H
  rw [wp_ret]
  imodintro
  iexact H

theorem zero_trip2 (k : Fin k0_t2_loop.trips) :
    ZeroRes d i arg13 arg14 (4 * (64 * 1 + k.val))
      ⊢ wp (M := 𝕄) frame (wpE defs₀ 𝒱₀ (thr d i) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 k ⟨⟩)
          fun _ => ZeroRes d i arg13 arg14 (4 * (64 * 1 + (k.val + 1))) := by
  have hk : k.val < 64 := lt_of_lt_of_le k.isLt k0_t2_abs.2.1
  unfold k0_t2_body
  simp only [Prog.lift, Prog.bind_op, Prog.bind_ret, Prog.pure_eq_ret]
  iintro H
  iapply (zero_pair d i 1 k.val 0 hk (by decide) rfl (k0_off5_eq k)) $$ H
  iintro H
  iapply (zero_pair d i 1 k.val 1 hk (by decide) rfl (k0_off6_eq k)) $$ H
  iintro H
  iapply (zero_pair d i 1 k.val 2 hk (by decide) rfl (k0_off7_eq k)) $$ H
  iintro H
  iapply (zero_pair d i 1 k.val 3 hk (by decide) rfl (k0_off8_eq k)) $$ H
  iintro H
  rw [wp_ret]
  imodintro
  iexact H

theorem zero_trip3 (k : Fin k0_t3_loop.trips) :
    ZeroRes d i arg13 arg14 (4 * (64 * 2 + k.val))
      ⊢ wp (M := 𝕄) frame (wpE defs₀ 𝒱₀ (thr d i) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 k ⟨⟩)
          fun _ => ZeroRes d i arg13 arg14 (4 * (64 * 2 + (k.val + 1))) := by
  have hk : k.val < 64 := lt_of_lt_of_le k.isLt k0_t3_abs.2.1
  unfold k0_t3_body
  simp only [Prog.lift, Prog.bind_op, Prog.bind_ret, Prog.pure_eq_ret]
  iintro H
  iapply (zero_pair d i 2 k.val 0 hk (by decide) rfl (k0_off9_eq k)) $$ H
  iintro H
  iapply (zero_pair d i 2 k.val 1 hk (by decide) rfl (k0_off10_eq k)) $$ H
  iintro H
  iapply (zero_pair d i 2 k.val 2 hk (by decide) rfl (k0_off11_eq k)) $$ H
  iintro H
  iapply (zero_pair d i 2 k.val 3 hk (by decide) rfl (k0_off12_eq k)) $$ H
  iintro H
  rw [wp_ret]
  imodintro
  iexact H

theorem zero_trip4 (k : Fin k0_t4_loop.trips) :
    ZeroRes d i arg13 arg14 (4 * (64 * 3 + k.val))
      ⊢ wp (M := 𝕄) frame (wpE defs₀ 𝒱₀ (thr d i) none) Set.univ (k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 k ⟨⟩)
          fun _ => ZeroRes d i arg13 arg14 (4 * (64 * 3 + (k.val + 1))) := by
  have hk : k.val < 64 := lt_of_lt_of_le k.isLt k0_t4_abs.2.1
  unfold k0_t4_body
  simp only [Prog.lift, Prog.bind_op, Prog.bind_ret, Prog.pure_eq_ret]
  iintro H
  iapply (zero_pair d i 3 k.val 0 hk (by decide) rfl (k0_off13_eq k)) $$ H
  iintro H
  iapply (zero_pair d i 3 k.val 1 hk (by decide) rfl (k0_off14_eq k)) $$ H
  iintro H
  iapply (zero_pair d i 3 k.val 2 hk (by decide) rfl (k0_off15_eq k)) $$ H
  iintro H
  iapply (zero_pair d i 3 k.val 3 hk (by decide) rfl (k0_off16_eq k)) $$ H
  iintro H
  rw [wp_ret]
  imodintro
  iexact H

end Cert.Proof.KI

end
-- ==== Proof.IdealLoop.lean ====
/-
  A tile's whole program: the tables brought in, the square blocks zeroed, the loop over the groups, the last waits.
-/
module

public import proofs.«01_k».proof.Proof.IdealGroup
public import proofs.«01_k».proof.Proof.IdealZero
public import Idealize.SL.BI.BigOpNat

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

variable (X : S16384x2144.Idx → F .f32) {T1 T2 : S2080.Idx → BitVec 32}
variable {O : CellTallies nD τ sig (HIx 1)} {W : Waits sig (HIx 1)}

/-! ## Families of groups -/

theorem emp_sep_eq {M : Type} [URA M] (P : sProp M) : iprop(emp ∗ P) = P := equiv_iff.mp emp_sep

theorem bigSep_insert_eq {M : Type} [URA M] {s : Finset ℕ} {a : ℕ} (h : a ∉ s) (Φ : ℕ → sProp M) :
    bigSep (insert a s) Φ = iprop(Φ a ∗ bigSep s Φ) := bigSep_insert h

theorem bigSep_Ico {M : Type} [URA M] {a b : ℕ} (h : a < b) (Φ : ℕ → sProp M) :
    bigSep (Finset.Ico a b) Φ = iprop(Φ a ∗ bigSep (Finset.Ico (a + 1) b) Φ) := by
  rw [← bigSep_insert_eq (by simp [Finset.mem_Ico])]
  congr 1
  ext x
  simp only [Finset.mem_Ico, Finset.mem_insert]
  omega

theorem bigSep_Ico_two {M : Type} [URA M] {a b : ℕ} (h : a + 1 < b) (Φ : ℕ → sProp M) :
    bigSep (Finset.Ico a b) Φ = iprop(Φ a ∗ Φ (a + 1) ∗ bigSep (Finset.Ico (a + 2) b) Φ) := by
  rw [bigSep_Ico (by omega), bigSep_Ico (by omega)]

/-- The groups past the last hold nothing. -/
theorem next_all (a : Memref sig .scVector .hbm S16384x2144 .f32) :
    bigSep (Finset.range 128) (HX d i X a) = iprop(HX d i X a 0 ∗ HX d i X a 1 ∗ bigSep (Finset.Ico 2 130) (NextX d i X a)) := by
  have e : bigSep (Finset.Ico 2 130) (NextX d i X a) = bigSep (Finset.Ico 2 128) (HX d i X a) := by
    rw [show Finset.Ico 2 130 = insert 129 (insert 128 (Finset.Ico 2 128)) by decide +kernel, bigSep_insert_eq (by decide +kernel), bigSep_insert_eq (by decide +kernel)]
    rw [show NextX d i X a 129 = iprop(emp) from if_neg (by decide), show NextX d i X a 128 = iprop(emp) from if_neg (by decide)]
    rw [emp_sep_eq, emp_sep_eq]
    exact bigSep_congr fun g hg => if_pos (Finset.mem_Ico.mp hg).2
  rw [e, show Finset.range 128 = Finset.Ico 0 128 by decide +kernel, bigSep_Ico_two (by decide)]

/-- The first two of the results' turns give nothing. -/
theorem done_all (b : Memref sig .scVector .hbm S16384x64 .f32) (c : Memref sig .scVector .hbm S16384x64x64 .f32) (n : ℕ) :
    bigSep (Finset.range (n + 2)) (Done d i X b c) = bigSep (Finset.range n) fun g => iprop(HO d i X c g ∗ HL d i X b g) := by
  induction n with
  | zero =>
    rw [bigSep_range_succ, bigSep_range_succ, show Done d i X b c 1 = iprop(emp) from if_neg (by decide), show Done d i X b c 0 = iprop(emp) from if_neg (by decide)]
    rw [emp_sep_eq, emp_sep_eq]
    rfl
  | succ n ih =>
    rw [show n + 1 + 2 = (n + 2) + 1 by omega, bigSep_range_succ, ih, bigSep_range_succ]
    congr 1

/-! ## The loop over the groups -/

theorem trips5 : Scf.trips k0_t5_loop.lb k0_t5_loop.ub k0_t5_loop.st = 64 := by decide +kernel

/-- What a tile holds before trip `t`. -/
def Inv (t1 t2 : Memref sig .scVector .vmem S2080 .i32) (a : Memref sig .scVector .hbm S16384x2144 .f32) (b : Memref sig .scVector .hbm S16384x64 .f32) (c : Memref sig .scVector .hbm S16384x64x64 .f32)
    (m m' : Memref sig .scVector .vmem S4x2144 .f32) (l l' : Memref sig .scVector .vmem S4x64 .f32) (o o' : Memref sig .scVector .vmem S4x64x64 .f32)
    (s15 s16 s17 s18 s19 s20 : DmaSems sig S_) (T1 T2 : S2080.Idx → BitVec 32) (O : CellTallies nD τ sig (HIx 1)) (W : Waits sig (HIx 1)) (t : ℕ) : sProp 𝕄 :=
  iprop(Core d i X t1 t2 a b c m m' l l' o o' s15 s16 s17 s18 s19 s20 T1 T2 O W t
    ∗ (bigSep (Finset.range (2 * t)) (HX d i X a) ∗ bigSep (Finset.Ico (2 * t + 2) 130) (NextX d i X a))
    ∗ bigSep (Finset.range (2 * t)) (Done d i X b c) ∗ bigSep (Finset.Ico (2 * t) 128) (HLO0 d i b c))

theorem inv_step (hT : TblOK T1 T2) (v2 c0 c1 : BitVec 32) (t : Fin k0_t5_loop.trips) :
    Inv d i X arg9 arg10 arg2 arg5 arg6 arg7 arg8 arg11 arg12 arg13 arg14 arg15 arg16 arg17 arg18 arg19 arg20 T1 T2 O W t.val
      ⊢ wp (M := 𝕄) frame (wpE defs₀ 𝒱₀ (thr d i) none) Set.univ (k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1 t ⟨⟩)
          fun _ => Inv d i X arg9 arg10 arg2 arg5 arg6 arg7 arg8 arg11 arg12 arg13 arg14 arg15 arg16 arg17 arg18 arg19 arg20 T1 T2 O W (t.val + 1) := by
  have ht := t5_lt t
  unfold Inv
  rw [show 2 * (t.val + 1) = 2 * t.val + 1 + 1 by omega, bigSep_range_succ, bigSep_range_succ, bigSep_range_succ, bigSep_range_succ,
    bigSep_Ico_two (show 2 * t.val + 2 + 1 < 130 by omega), bigSep_Ico_two (show 2 * t.val + 1 < 128 by omega)]
  iintro ⟨HC, ⟨HX, HN, HN', HNs⟩, HD, HL, HL', HLs⟩
  iapply (wp_wand_r frame (wpE defs₀ 𝒱₀ (thr d i) none) Set.univ)
  isplitl [HC HN HN' HL HL']
  · iapply (trip d i X hT t v2 c0 c1)
    isplitl [HC]; · iexact HC
    isplitl [HN HN']
    · isplitl [HN]; · iexact HN
      iexact HN'
    isplitl [HL]; · iexact HL
    iexact HL'
  iintro %_ ⟨HC, ⟨Hx, Hx'⟩, Hd, Hd'⟩
  isplitl [HC]; · iexact HC
  isplitl [HX HNs Hx Hx']
  · isplitl [HX Hx Hx']
    · isplitl [Hx']; · iexact Hx'
      isplitl [Hx]; · iexact Hx
      iexact HX
    iexact HNs
  isplitl [HD Hd Hd']
  · isplitl [Hd']; · iexact Hd'
    isplitl [Hd]; · iexact Hd
    iexact HD
  iexact HLs

theorem main_loop (hT : TblOK T1 T2) (v2 c0 c1 : BitVec 32) :
    Inv d i X arg9 arg10 arg2 arg5 arg6 arg7 arg8 arg11 arg12 arg13 arg14 arg15 arg16 arg17 arg18 arg19 arg20 T1 T2 O W 0
      ⊢ wp (M := 𝕄) frame (wpE defs₀ 𝒱₀ (thr d i) none) Set.univ (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1))
          fun _ => Inv d i X arg9 arg10 arg2 arg5 arg6 arg7 arg8 arg11 arg12 arg13 arg14 arg15 arg16 arg17 arg18 arg19 arg20 T1 T2 O W 64 := by
  iintro H
  iapply (Scf.wp_for frame (wpE defs₀ 𝒱₀ (thr d i) none) Set.univ k0_t5_loop.lb k0_t5_loop.ub k0_t5_loop.st k0_t5_ok ⟨⟩
    (k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1 v2 c0 c1)
    (fun k _ => Inv d i X arg9 arg10 arg2 arg5 arg6 arg7 arg8 arg11 arg12 arg13 arg14 arg15 arg16 arg17 arg18 arg19 arg20 T1 T2 O W k) (fun k _ => inv_step d i X hT v2 c0 c1 k))
  rw [show Scf.trips k0_t5_loop.lb k0_t5_loop.ub k0_t5_loop.st = 64 from trips5]
  isplitl [H]; · iexact H
  iintro %_ H
  iexact H

/-! ## The start -/

theorem off17 (r : Fin 2) : k0_off17 i (BitVec.ofNat 32 (4 * r.val)) = ![base i r.val, 0] := by
  have hr : r.val < 2 := r.isLt
  rw [k0_off17_eq i r]
  unfold base
  rw [Nat.mod_eq_of_lt (by omega)]

/-- What the start of the program needs and leaves: the sources of the tables, at any share, and the copies' semaphores. -/
def Src (a3 a4 : Memref sig .scVector .hbm S2080 .i32) (r0 r1 : DmaSems sig S_) (q : PosShare TreeShare) (T1 T2 : S2080.Idx → BitVec 32) : sProp 𝕄 :=
  iprop((Has (e := .i32) (thr d i) a3 q T1 ∗ semVal (thr d i, .dma r0.sem) 0) ∗ (Has (e := .i32) (thr d i) a4 q T2 ∗ semVal (thr d i, .dma r1.sem) 0))

theorem table_in {a3 : Memref sig .scVector .hbm S2080 .i32} {t1 : Memref sig .scVector .vmem S2080 .i32} {r0 : DmaSems sig S_} {q : PosShare TreeShare}
    {h1 h1' : a3.view.WordExact} {h2 h2' : t1.view.WordExact} {h3 : DmaTarget.Typed (nD := nD) (τ := τ) (p := (thr d i).2) .hbm (.dma r0.sem) (.here t1)}
    {α : Type} {Q : α → sProp 𝕄} {k : PUnit → Prog (TpuEff nD τ sig (Elt F) Λ₀ (thr d i).2) α} :
    iprop((Has (e := .i32) (thr d i) a3 q T1 ∗ semVal (thr d i, .dma r0.sem) 0) ∗ (∃ y : S2080.Idx → BitVec 32, Has (e := .i32) (thr d i) t1 fullShare y) ∗ Owe d i O W)
      ⊢ iprop((iprop((Has (e := .i32) (thr d i) a3 q T1 ∗ semVal (thr d i, .dma r0.sem) 0) ∗ Has (e := .i32) (thr d i) t1 fullShare T1 ∗ Owe d i O W)
            -∗ wp frame (wpE defs₀ 𝒱₀ (thr d i) none) Set.univ (k ⟨⟩) Q)
          -∗ wp frame (wpE defs₀ 𝒱₀ (thr d i) none) Set.univ
            (.op (.enqueueDma a3 (.here t1) (.dma r0.sem) h1 h2 h3) fun _ => .op (.waitDma2 r0.sem a3 t1 h1' h2') k) Q) := by
  iintro ⟨⟨H3, Hv⟩, ⟨%y, H9⟩, HW⟩ Hk
  iapply (has_dma 𝒱₀ (thr d i) none EC none (dst := t1) (y := y) rfl (show 0 < S2080.numel by decide)) $$ [H3 H9 Hv]
  · isplitl [H3]; · iexact H3
    isplitl [H9]; · iexact H9
    iexact Hv
  iintro HF
  iapply (owe_wait d i (dstw := t1) rfl) $$ [HF HW]
  · isplitl [HF]; · iexact HF
    iexact HW
  iintro ⟨⟨H9, H3⟩, Hv, HW⟩
  iapply Hk
  isplitl [H3 Hv]
  · isplitl [H3]; · iexact H3
    iexact Hv
  isplitl [H9]; · iexact H9
  iexact HW

/-- A loop that zeroes a row of both square blocks. -/
theorem zero_loop {o o' : Memref sig .scVector .vmem S4x64x64 .f32} (r : ℕ) {l : Scf.Loop 32} (ok : l.OK) (h64 : Scf.trips l.lb l.ub l.st = 64)
    {body : Fin l.trips → PUnit → Prog (TpuEff nD τ sig (Elt F) Λ₀ (thr d i).2) PUnit}
    (hb : ∀ k, ZeroRes d i o o' (4 * (64 * r + k.val)) ⊢ wp (M := 𝕄) frame (wpE defs₀ 𝒱₀ (thr d i) none) Set.univ (body k ⟨⟩)
      fun _ => ZeroRes d i o o' (4 * (64 * r + (k.val + 1)))) :
    ZeroRes d i o o' (4 * (64 * r + 0)) ⊢ wp (M := 𝕄) frame (wpE defs₀ 𝒱₀ (thr d i) none) Set.univ (Scf.Loop.for l ok ⟨⟩ body)
      fun _ => ZeroRes d i o o' (4 * (64 * (r + 1) + 0)) := by
  iintro H
  iapply (Scf.wp_for frame (wpE defs₀ 𝒱₀ (thr d i) none) Set.univ l.lb l.ub l.st ok ⟨⟩ body
    (fun k _ => ZeroRes d i o o' (4 * (64 * r + k))) (fun k _ => hb k))
  rw [h64]
  isplitl [H]; · iexact H
  iintro %_ H
  rw [show 64 * (r + 1) + 0 = 64 * r + 64 by omega]
  iexact H

theorem part10 (q : PosShare TreeShare) :
    iprop(Src d i arg3 arg4 v27_r0 v27_r1 q T1 T2
        ∗ ((∃ y : S2080.Idx → BitVec 32, Has (e := .i32) (thr d i) arg9 fullShare y) ∗ (∃ y : S2080.Idx → BitVec 32, Has (e := .i32) (thr d i) arg10 fullShare y))
        ∗ (HX d i X arg2 0 ∗ (∃ y : S4x2144.Idx → F .f32, Has (e := .f32) (thr d i) arg7 fullShare y) ∗ semVal (thr d i, .dma arg15.sem) 0)
        ∗ (HX d i X arg2 1 ∗ (∃ y : S4x2144.Idx → F .f32, Has (e := .f32) (thr d i) arg8 fullShare y) ∗ semVal (thr d i, .dma arg16.sem) 0)
        ∗ ZeroRes d i arg13 arg14 (4 * (64 * 0 + 0)) ∗ Owe d i O W)
      ⊢ wp (M := 𝕄) frame (wpE defs₀ 𝒱₀ (thr d i) none) Set.univ (k0_part10 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1)
          fun _ => iprop(Src d i arg3 arg4 v27_r0 v27_r1 q T1 T2 ∗ Tab d i T1 T2 arg9 arg10
            ∗ (XIn d i X arg2 arg7 arg15 0 ∗ XIn d i X arg2 arg8 arg16 1) ∗ ZeroRes d i arg13 arg14 (4 * (64 * (3 + 1) + 0)) ∗ Owe d i O W) := by
  rw [k0_part10_eq_skeleton, k0_part10_skel]
  simp only [Prog.lift, Prog.bind_op, Prog.bind_ret, Prog.pure_eq_ret]
  unfold Src
  iintro ⟨⟨H3, H4⟩, ⟨H9, H10⟩, ⟨HX, ⟨%y, H7⟩, Hs⟩, ⟨HX', ⟨%y', H8⟩, Hs'⟩, HZ, HW⟩
  iapply (table_in d i) $$ [H3 H9 HW]
  · isplitl [H3]; · iexact H3
    isplitl [H9]; · iexact H9
    iexact HW
  iintro ⟨H3, H9, HW⟩
  iapply (table_in d i) $$ [H4 H10 HW]
  · isplitl [H4]; · iexact H4
    isplitl [H10]; · iexact H10
    iexact HW
  iintro ⟨H4, H10, HW⟩
  rw [wp_bind]
  iapply (wp_wand_r frame (wpE defs₀ 𝒱₀ (thr d i) none) Set.univ)
  isplitl [HZ]
  · iapply (zero_loop d i 0 k0_t1_ok (show Scf.trips k0_t1_loop.lb k0_t1_loop.ub k0_t1_loop.st = 64 by decide +kernel) (zero_trip1 d i)); iexact HZ
  iintro %_ HZ
  rw [wp_bind]
  iapply (wp_wand_r frame (wpE defs₀ 𝒱₀ (thr d i) none) Set.univ)
  isplitl [HZ]
  · iapply (zero_loop d i 1 k0_t2_ok (show Scf.trips k0_t2_loop.lb k0_t2_loop.ub k0_t2_loop.st = 64 by decide +kernel) (zero_trip2 d i)); iexact HZ
  iintro %_ HZ
  rw [wp_bind]
  iapply (wp_wand_r frame (wpE defs₀ 𝒱₀ (thr d i) none) Set.univ)
  isplitl [HZ]
  · iapply (zero_loop d i 2 k0_t3_ok (show Scf.trips k0_t3_loop.lb k0_t3_loop.ub k0_t3_loop.st = 64 by decide +kernel) (zero_trip3 d i)); iexact HZ
  iintro %_ HZ
  rw [wp_bind]
  iapply (wp_wand_r frame (wpE defs₀ 𝒱₀ (thr d i) none) Set.univ)
  isplitl [HZ]
  · iapply (zero_loop d i 3 k0_t4_ok (show Scf.trips k0_t4_loop.lb k0_t4_loop.ub k0_t4_loop.st = 64 by decide +kernel) (zero_trip4 d i)); iexact HZ
  iintro %_ HZ
  iapply (x_start d i X arg2 (g := 0) (by decide) (off17 i 0)) $$ [HX H7 Hs]
  · isplitl [HX]; · iexact HX
    isplitl [H7]; · iexact H7
    iexact Hs
  iintro HX
  iapply (x_start d i X arg2 (g := 1) (by decide) (off17 i 1)) $$ [HX' H8 Hs']
  · isplitl [HX']; · iexact HX'
    isplitl [H8]; · iexact H8
    iexact Hs'
  iintro HX'
  rw [wp_ret]
  imodintro
  isplitl [H3 H4]
  · isplitl [H3]; · iexact H3
    iexact H4
  unfold Tab
  isplitl [H9 H10]
  · isplitl [H9]; · iexact H9
    iexact H10
  isplitl [HX HX']
  · isplitl [HX]; · iexact HX
    iexact HX'
  isplitl [HZ]; · iexact HZ
  iexact HW

end Cert.Proof.KI

end
-- ==== Proof.IdealTile.lean ====
/-
  A tile's program from its scratch and its rows of the arrays to its rows of the results.
-/
module

public import proofs.«01_k».proof.Proof.IdealLoop

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)
variable {arg2 : Memref sig .scVector .hbm S16384x2144 .f32} {harg2 : arg2.IsWhole} {arg3 : Memref sig .scVector .hbm S2080 .i32} {harg3 : arg3.IsWhole}
variable {arg4 : Memref sig .scVector .hbm S2080 .i32} {harg4 : arg4.IsWhole} {arg5 : Memref sig .scVector .hbm S16384x64 .f32} {harg5 : arg5.IsWhole}
variable {arg6 : Memref sig .scVector .hbm S16384x64x64 .f32} {harg6 : arg6.IsWhole} {arg7 : Memref sig .scVector .vmem S4x2144 .f32} {harg7 : arg7.IsWhole}
variable {arg8 : Memref sig .scVector .vmem S4x2144 .f32} {harg8 : arg8.IsWhole} {arg9 : Memref sig .scVector .vmem S2080 .i32} {harg9 : arg9.IsWhole}
variable {arg10 : Memref sig .scVector .vmem S2080 .i32} {harg10 : arg10.IsWhole} {arg11 : Memref sig .scVector .vmem S4x64 .f32} {harg11 : arg11.IsWhole}
variable {arg12 : Memref sig .scVector .vmem S4x64 .f32} {harg12 : arg12.IsWhole} {arg13 : Memref sig .scVector .vmem S4x64x64 .f32} {harg13 : arg13.IsWhole}
variable {arg14 : Memref sig .scVector .vmem S4x64x64 .f32} {harg14 : arg14.IsWhole}
variable {arg15 arg16 arg17 arg18 arg19 arg20 v27_r0 v27_r1 : DmaSems sig S_}

variable (X : S16384x2144.Idx → F .f32) {T1 T2 : S2080.Idx → BitVec 32}
variable {O : CellTallies nD τ sig (HIx 1)} {W : Waits sig (HIx 1)}

/-- A memref's elements, whatever they are. -/
def Any {sp : Space} {s : Shape} {e : EltTy} (m : Memref sig .scVector sp s e) : sProp 𝕄 := iprop(∃ y : s.Idx → Elt F e, Has (thr d i) m fullShare y)

/-- A tile's scratch: the tables, the blocks, the semaphores at rest. -/
def Scr (m m' : Memref sig .scVector .vmem S4x2144 .f32) (t1 t2 : Memref sig .scVector .vmem S2080 .i32)
    (l l' : Memref sig .scVector .vmem S4x64 .f32) (o o' : Memref sig .scVector .vmem S4x64x64 .f32)
    (s15 s16 s17 s18 s19 s20 : DmaSems sig S_) : sProp 𝕄 :=
  iprop((Any (F := F) d i m ∗ semVal (thr d i, .dma s15.sem) 0) ∗ (Any (F := F) d i m' ∗ semVal (thr d i, .dma s16.sem) 0)
    ∗ (Any (F := F) d i t1 ∗ Any (F := F) d i t2)
    ∗ (Any (F := F) d i l ∗ semVal (thr d i, .dma s19.sem) 0) ∗ (Any (F := F) d i l' ∗ semVal (thr d i, .dma s20.sem) 0)
    ∗ (Any (F := F) d i o ∗ semVal (thr d i, .dma s17.sem) 0) ∗ (Any (F := F) d i o' ∗ semVal (thr d i, .dma s18.sem) 0))

/-- The blocks out of the loop, or before it, are idle. -/
theorem idle_of (o : Memref sig .scVector .vmem S4x64x64 .f32) (l : Memref sig .scVector .vmem S4x64 .f32) (s s' : DmaSems sig S_) :
    iprop(HasZeroed (F := F) (thr d i) o 1024 ∗ semVal (thr d i, .dma s.sem) 0 ∗ Any (F := F) d i l ∗ semVal (thr d i, .dma s'.sem) 0)
      ⊢ (Idle d i o s l s' : sProp 𝕄) := by
  unfold HasZeroed Idle Any
  iintro ⟨⟨%y, %hy, Ho⟩, Hs, Hl, Hs'⟩
  isplitl [Ho]
  · iexists y
    isplitr
    · ipureintro; exact hy.upper
    · iexact Ho
  isplitl [Hs]; · iexact Hs
  isplitl [Hl]; · iexact Hl
  iexact Hs'

theorem any_of_idle (o : Memref sig .scVector .vmem S4x64x64 .f32) (l : Memref sig .scVector .vmem S4x64 .f32) (s s' : DmaSems sig S_) :
    (Idle d i o s l s' : sProp 𝕄)
      ⊢ iprop((Any (F := F) d i l ∗ semVal (thr d i, .dma s'.sem) 0) ∗ (Any (F := F) d i o ∗ semVal (thr d i, .dma s.sem) 0)) := by
  unfold Idle Any
  iintro ⟨⟨%y, %hy, Ho⟩, Hs, Hl, Hs'⟩
  isplitl [Hl Hs']
  · isplitl [Hl]; · iexact Hl
    iexact Hs'
  isplitl [Ho]
  · iexists y; iexact Ho
  iexact Hs

theorem any_of_xIn (a : Memref sig .scVector .hbm S16384x2144 .f32) (m : Memref sig .scVector .vmem S4x2144 .f32) (s : DmaSems sig S_) {g : ℕ} (hg : ¬g < 128) :
    XIn d i X a m s g ⊢ (iprop(Any (F := F) d i m ∗ semVal (thr d i, .dma s.sem) 0) : sProp 𝕄) := by
  unfold XIn Any
  rw [if_neg hg]

theorem zeroed_of_any (o : Memref sig .scVector .vmem S4x64x64 .f32) : Any (F := F) d i o ⊢ (HasZeroed (F := F) (thr d i) o (4 * (64 * 0 + 0)) : sProp 𝕄) := by
  unfold HasZeroed Any
  iintro ⟨%y, Ho⟩
  iexists y
  isplitr
  · ipureintro; intro j hj; exact absurd hj (by omega)
  · iexact Ho

theorem tile (hT : TblOK T1 T2) (q : PosShare TreeShare) :
    iprop(Scr d i arg7 arg8 arg9 arg10 arg11 arg12 arg13 arg14 arg15 arg16 arg17 arg18 arg19 arg20
        ∗ Src d i arg3 arg4 v27_r0 v27_r1 q T1 T2
        ∗ bigSep (Finset.range 128) (HX d i X arg2) ∗ bigSep (Finset.range 128) (HLO0 d i arg5 arg6) ∗ Owe d i O W)
      ⊢ wp (M := 𝕄) frame (wpE defs₀ 𝒱₀ (thr d i) none) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v27_r0 v27_r1)
          fun _ => iprop(Scr d i arg7 arg8 arg9 arg10 arg11 arg12 arg13 arg14 arg15 arg16 arg17 arg18 arg19 arg20
            ∗ Src d i arg3 arg4 v27_r0 v27_r1 q T1 T2
            ∗ bigSep (Finset.range 128) (HX d i X arg2) ∗ (bigSep (Finset.range 128) fun g => iprop(HO d i X arg6 g ∗ HL d i X arg5 g)) ∗ Owe d i O W) := by
  rw [cc0__sc_body_eq_skeleton, cc0__sc_body_skel, ← done_all d i X arg5 arg6 128]
  simp only [Prog.lift, Prog.bind_op, Prog.bind_ret, Prog.pure_eq_ret]
  rw [show bigSep (Finset.range (128 + 2)) (Done d i X arg5 arg6) = iprop(Done d i X arg5 arg6 129 ∗ Done d i X arg5 arg6 128 ∗ bigSep (Finset.range 128) (Done d i X arg5 arg6)) by
    rw [bigSep_range_succ, bigSep_range_succ]]
  unfold Scr
  iintro ⟨⟨⟨H7, Hs15⟩, ⟨H8, Hs16⟩, H9, ⟨H11, Hs19⟩, ⟨H12, Hs20⟩, ⟨H13, Hs17⟩, ⟨H14, Hs18⟩⟩, HS, HX, HL, HW⟩
  ihave HX := (show bigSep (Finset.range 128) (HX d i X arg2) ⊢ iprop(HX d i X arg2 0 ∗ HX d i X arg2 1 ∗ bigSep (Finset.Ico 2 130) (NextX d i X arg2)) from
    (next_all d i X arg2) ▸ .rfl) $$ HX
  icases HX with ⟨HX0, HX1, HN⟩
  ihave H13 := (zeroed_of_any d i arg13) $$ H13
  ihave H14 := (zeroed_of_any d i arg14) $$ H14
  rw [wp_bind]
  iapply (wp_wand_r frame (wpE defs₀ 𝒱₀ (thr d i) none) Set.univ)
  isplitl [HS H9 HX0 H7 Hs15 HX1 H8 Hs16 H13 H14 HW]
  · iapply (part10 d i X (T1 := T1) (T2 := T2) (O := O) (W := W) q)
    isplitl [HS]; · iexact HS
    isplitl [H9]; · iexact H9
    isplitl [HX0 H7 Hs15]
    · isplitl [HX0]; · iexact HX0
      isplitl [H7]
      · unfold Any; iexact H7
      iexact Hs15
    isplitl [HX1 H8 Hs16]
    · isplitl [HX1]; · iexact HX1
      isplitl [H8]
      · unfold Any; iexact H8
      iexact Hs16
    isplitl [H13 H14]
    · unfold ZeroRes
      isplitl [H13]; · iexact H13
      iexact H14
    iexact HW
  iintro %r ⟨HS, HT, HX, HZ, HW⟩
  obtain ⟨v2, c0, c1⟩ := r
  dsimp only
  unfold ZeroRes
  icases HZ with ⟨H13, H14⟩
  ihave HI := (idle_of d i arg13 arg11 arg17 arg19) $$ [H13 Hs17 H11 Hs19]
  · isplitl [H13]; · iexact H13
    isplitl [Hs17]; · iexact Hs17
    isplitl [H11]; · iexact H11
    iexact Hs19
  ihave HI' := (idle_of d i arg14 arg12 arg18 arg20) $$ [H14 Hs18 H12 Hs20]
  · isplitl [H14]; · iexact H14
    isplitl [Hs18]; · iexact Hs18
    isplitl [H12]; · iexact H12
    iexact Hs20
  rw [wp_bind]
  iapply (wp_wand_r frame (wpE defs₀ 𝒱₀ (thr d i) none) Set.univ)
  isplitl [HT HX HN HI HI' HL HW]
  · iapply (main_loop d i X (O := O) (W := W) hT v2 c0 c1)
    unfold Inv Core
    isplitl [HT HX HI HI' HW]
    · isplitl [HX]; · iexact HX
      isplitl [HI HI']
      · unfold Outs
        rw [if_neg (by decide), if_neg (by decide)]
        isplitl [HI]; · iexact HI
        iexact HI'
      isplitl [HT]; · iexact HT
      iexact HW
    isplitl [HN]
    · isplitr; · iempintro
      iexact HN
    isplitr; · iempintro
    rw [show 2 * 0 = 0 from rfl, ← show Finset.range 128 = Finset.Ico 0 128 by decide +kernel]
    iexact HL
  unfold Inv Core
  iintro %_ ⟨⟨⟨HX7, HX8⟩, ⟨HO, HO'⟩, HT, HW⟩, ⟨HX, _⟩, HD, _⟩
  iapply (out_waits d i X arg5 arg6 (g := 128) (by decide)) $$ [HO HW]
  · isplitl [HO]; · iexact HO
    iexact HW
  iintro ⟨HI, HD', HW⟩
  iapply (out_waits d i X arg5 arg6 (g := 129) (by decide)) $$ [HO' HW]
  · isplitl [HO']; · iexact HO'
    iexact HW
  iintro ⟨HI', HD'', HW⟩
  rw [wp_ret]
  imodintro
  ihave HI := (any_of_idle d i arg13 arg11 arg17 arg19) $$ HI
  ihave HI' := (any_of_idle d i arg14 arg12 arg18 arg20) $$ HI'
  icases HI with ⟨H11, H13⟩
  icases HI' with ⟨H12, H14⟩
  isplitl [HX7 HX8 HT H11 H12 H13 H14]
  · ihave H7 := (any_of_xIn d i X arg2 arg7 arg15 (g := 2 * 64) (by decide)) $$ HX7
    ihave H8 := (any_of_xIn d i X arg2 arg8 arg16 (g := 2 * 64 + 1) (by decide)) $$ HX8
    isplitl [H7]; · iexact H7
    isplitl [H8]; · iexact H8
    isplitl [HT]
    · unfold Tab Any
      icases HT with ⟨H9, H10⟩
      isplitl [H9]
      · iexists _; iexact H9
      iexists _; iexact H10
    isplitl [H11]; · iexact H11
    isplitl [H12]; · iexact H12
    isplitl [H13]; · iexact H13
    iexact H14
  isplitl [HS]; · iexact HS
  isplitl [HX]; · iexact HX
  isplitl [HD HD' HD'']
  · isplitl [HD'']; · iexact HD''
    isplitl [HD']; · iexact HD'
    iexact HD
  iexact HW

end Cert.Proof.KI

end
-- ==== Proof.IdealSplit.lean ====
/-
  The arrays as the tiles' rows. Group `g` of the tile at `i` is rows `base i g` to `base i g + 3`; over the tiles and
  their 128 groups, these are all the rows, each once.
-/
module

public import proofs.«01_k».proof.Proof.IdealTile

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)

abbrev xW : Memref sig .scVector .hbm S16384x2144 .f32 := Memref.whole main_arg0_scv
abbrev c0W : Memref sig .scVector .hbm S2080 .i32 := Memref.whole main_c_scv
abbrev c1W : Memref sig .scVector .hbm S2080 .i32 := Memref.whole main_c_0_scv
abbrev lW : Memref sig .scVector .hbm S16384x64 .f32 := Memref.whole main_v0_0_scv
abbrev oW : Memref sig .scVector .hbm S16384x64x64 .f32 := Memref.whole main_v0_1_scv

abbrev xLoc (d : Fin nD) : Loc nD τ sig := (SparseCore.T d).loc main_arg0
abbrev c0Loc (d : Fin nD) : Loc nD τ sig := (SparseCore.T d).loc main_c
abbrev c1Loc (d : Fin nD) : Loc nD τ sig := (SparseCore.T d).loc main_c_0
abbrev lLoc (d : Fin nD) : Loc nD τ sig := (SparseCore.T d).loc main_v0_0
abbrev oLoc (d : Fin nD) : Loc nD τ sig := (SparseCore.T d).loc main_v0_1

/-- The tile of SparseCore `c`, number `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## One group's rows -/

def xSet (g : ℕ) : Finset (Idx (xLoc d)) := (xAt i xW g).view.set
def lSet (g : ℕ) : Finset (Idx (lLoc d)) := (lAt i lW g).view.set
def oSet (g : ℕ) : Finset (Idx (oLoc d)) := (oAt i oW g).view.set

theorem mem_xSet (g : ℕ) (j : S16384x2144.Idx) : j ∈ xSet d i g ↔ base i g ≤ (j 0).val ∧ (j 0).val < base i g + 4 := by
  have e : xSet d i g = (Rect.unit (s := S16384x2144) ![base i g, 0] S4x2144.size (inbX i g)).set := View.set_slice_whole (main_arg0_scv : Ref sig .scVector) _
  rw [e, Rect.mem_set_unit]
  constructor
  · intro h; exact h 0
  · intro h a
    match a with
    | ⟨0, _⟩ => exact h
    | ⟨1, h1⟩ => exact ⟨Nat.zero_le _, by rw [show (![base i g, 0] : Fin 2 → ℕ) ⟨1, h1⟩ + S4x2144.size ⟨1, h1⟩ = 2144 from rfl]; exact (j 1).isLt⟩

theorem mem_lSet (g : ℕ) (j : S16384x64.Idx) : j ∈ lSet d i g ↔ base i g ≤ (j 0).val ∧ (j 0).val < base i g + 4 := by
  have e : lSet d i g = (Rect.unit (s := S16384x64) ![base i g, 0] S4x64.size (inbL i g)).set := View.set_slice_whole (main_v0_0_scv : Ref sig .scVector) _
  rw [e, Rect.mem_set_unit]
  constructor
  · intro h; exact h 0
  · intro h a
    match a with
    | ⟨0, _⟩ => exact h
    | ⟨1, h1⟩ => exact ⟨Nat.zero_le _, by rw [show (![base i g, 0] : Fin 2 → ℕ) ⟨1, h1⟩ + S4x64.size ⟨1, h1⟩ = 64 from rfl]; exact (j 1).isLt⟩

theorem mem_oSet (g : ℕ) (j : S16384x64x64.Idx) : j ∈ oSet d i g ↔ base i g ≤ (j 0).val ∧ (j 0).val < base i g + 4 := by
  have e : oSet d i g = (Rect.unit (s := S16384x64x64) ![base i g, 0, 0] S4x64x64.size (inbO i g)).set := View.set_slice_whole (main_v0_1_scv : Ref sig .scVector) _
  rw [e, Rect.mem_set_unit]
  constructor
  · intro h; exact h 0
  · intro h a
    match a with
    | ⟨0, _⟩ => exact h
    | ⟨1, h1⟩ => exact ⟨Nat.zero_le _, by rw [show (![base i g, 0, 0] : Fin 3 → ℕ) ⟨1, h1⟩ + S4x64x64.size ⟨1, h1⟩ = 64 from rfl]; exact (j 1).isLt⟩
    | ⟨2, h1⟩ => exact ⟨Nat.zero_le _, by rw [show (![base i g, 0, 0] : Fin 3 → ℕ) ⟨2, h1⟩ + S4x64x64.size ⟨2, h1⟩ = 64 from rfl]; exact (j 2).isLt⟩

theorem read_x (X : S16384x2144.Idx → F .f32) (g : ℕ) : (xAt i xW g).view.read (Elt F) X = blk i X g := by
  funext j
  refine congrArg X (funext fun a => Fin.ext ?_)
  match a with
  | ⟨0, _⟩ => show base i g + 1 * (j 0).val = base i g + (j 0).val; omega
  | ⟨1, _⟩ => show 0 + 1 * (j 1).val = (j 1).val; omega

theorem read_l (X : S16384x2144.Idx → F .f32) (g : ℕ) : (lAt i lW g).view.read (Elt F) (locVal X) = locVal (blk i X g) := by
  funext j
  refine (congrArg (locVal X) (funext fun a => Fin.ext ?_)).trans (locVal_rows4 X (base i g) (base_le i g) j).symm
  match a with
  | ⟨0, _⟩ => show base i g + 1 * (j 0).val = base i g + (j 0).val; omega
  | ⟨1, _⟩ => show 0 + 1 * (j 1).val = (j 1).val; omega

theorem read_o (X : S16384x2144.Idx → F .f32) (g : ℕ) : (oAt i oW g).view.read (Elt F) (outVal X) = outVal (blk i X g) := by
  funext j
  refine (congrArg (outVal X) (funext fun a => Fin.ext ?_)).trans (outVal_rows4 X (base i g) (base_le i g) j).symm
  match a with
  | ⟨0, _⟩ => show base i g + 1 * (j 0).val = base i g + (j 0).val; omega
  | ⟨1, _⟩ => show 0 + 1 * (j 1).val = (j 1).val; omega
  | ⟨2, _⟩ => show 0 + 1 * (j 2).val = (j 2).val; omega

theorem has_eq {sp : Space} {s : Shape} {e : EltTy} (c : Thread nD τ) (m : Memref sig c.2.kind sp s e) (q : PosShare TreeShare) (f : Buf (Elt F) (m.view.loc c))
    {x : s.Idx → Elt F e} (h : m.view.read (Elt F) f = x) : (Has c m q x : sProp 𝕄) = (m.view.loc c ↦[m.view.set]{q} f) := by
  subst h
  unfold Has
  exact (pointsTo_rep (Ix := HIx 1) (Name := ℕ) (U := UU) (Lvl := ℕ) c m f q).symm

theorem HX_eq (X : S16384x2144.Idx → F .f32) (g : ℕ) : (HX d i X xW g : sProp 𝕄) = (xLoc d ↦[xSet d i g]{fullShare} X) :=
  has_eq (thr d i) (xAt i xW g) fullShare X (read_x i X g)

theorem HL_eq (X : S16384x2144.Idx → F .f32) (g : ℕ) : (HL d i X lW g : sProp 𝕄) = (lLoc d ↦[lSet d i g]{fullShare} locVal X) :=
  has_eq (thr d i) (lAt i lW g) fullShare (locVal X) (read_l i X g)

theorem HO_eq (X : S16384x2144.Idx → F .f32) (g : ℕ) : (HO d i X oW g : sProp 𝕄) = (oLoc d ↦[oSet d i g]{fullShare} outVal X) :=
  has_eq (thr d i) (oAt i oW g) fullShare (outVal X) (read_o i X g)

theorem HLO0_of (f : Buf (Elt F) (lLoc d)) (f' : Buf (Elt F) (oLoc d)) (g : ℕ) :
    iprop((lLoc d ↦[lSet d i g]{fullShare} f) ∗ oLoc d ↦[oSet d i g]{fullShare} f') ⊢ (HLO0 d i lW oW g : sProp 𝕄) := by
  unfold HLO0
  have e1 := has_eq (F := F) (thr d i) (lAt i lW g) fullShare f rfl
  have e2 := has_eq (F := F) (thr d i) (oAt i oW g) fullShare f' rfl
  iintro ⟨H, H'⟩
  isplitl [H]
  · iexists ((lAt i lW g).view.read (Elt F) f)
    rw [e1]; iexact H
  · iexists ((oAt i oW g).view.read (Elt F) f')
    rw [e2]; iexact H'

/-! ## All the rows -/

/-- A tile and a group of its. -/
abbrev Piece : Type := (Fin (grid0.bound 0) × Fin (grid0.bound 1)) × Fin 128

def start (p : Piece) : ℕ := base (coordsV p.1.1 p.1.2) p.2.val

theorem start_eq (p : Piece) : start p = 1024 * p.1.2.val + 512 * p.1.1.val + 4 * (p.2.val % 128) := rfl

theorem start_inj {p p' : Piece} {n : ℕ} (h : start p ≤ n ∧ n < start p + 4) (h' : start p' ≤ n ∧ n < start p' + 4) : p = p' := by
  obtain ⟨⟨c, s⟩, g⟩ := p
  obtain ⟨⟨c', s'⟩, g'⟩ := p'
  have hg : g.val < 128 := g.isLt
  have hg' : g'.val < 128 := g'.isLt
  have hc : c.val < 2 := c.isLt
  have hc' : c'.val < 2 := c'.isLt
  rw [start_eq] at h h'
  dsimp only at h h'
  have e1 : c.val = c'.val ∧ s.val = s'.val ∧ g.val = g'.val := by omega
  exact Prod.ext (Prod.ext (Fin.ext e1.1) (Fin.ext e1.2.1)) (Fin.ext e1.2.2)

theorem start_cover {n : ℕ} (hn : n < 16384) : ∃ p, start p ≤ n ∧ n < start p + 4 := by
  refine ⟨((⟨n / 512 % 2, Nat.mod_lt _ (show 0 < 2 by decide)⟩, ⟨n / 1024, show n / 1024 < 16 by omega⟩), ⟨n / 4 % 128, Nat.mod_lt _ (by decide)⟩), ?_⟩
  rw [start_eq]
  dsimp only
  omega

/-- An array whole is its groups. -/
theorem split_rows {ℓ : Loc nD τ sig} (q : PosShare TreeShare) (f : Buf (Elt F) ℓ) (row : Idx ℓ → ℕ) (hrow : ∀ j, row j < 16384)
    (S : Fin (grid0.bound 0) → Fin (grid0.bound 1) → ℕ → Finset (Idx ℓ))
    (hS : ∀ c s g j, j ∈ S c s g ↔ base (coordsV c s) g ≤ row j ∧ row j < base (coordsV c s) g + 4) :
    (ℓ ↦{q} f : sProp 𝕄) = bigSep Finset.univ fun c => bigSep Finset.univ fun s => bigSep (Finset.range 128) fun g => ℓ ↦[S c s g]{q} f := by
  have hcov : (Finset.univ : Finset Piece).biUnion (fun p => S p.1.1 p.1.2 p.2.val) = Finset.univ := Finset.eq_univ_iff_forall.mpr fun j => by
    obtain ⟨p, h⟩ := start_cover (hrow j)
    exact Finset.mem_biUnion.mpr ⟨p, Finset.mem_univ _, (hS p.1.1 p.1.2 p.2.val j).mpr h⟩
  have e : (ℓ ↦{q} f : sProp 𝕄) = bigSep (Finset.univ : Finset Piece) fun p => ℓ ↦[S p.1.1 p.1.2 p.2.val]{q} f := by
    rw [← pointsTo_biUnion Finset.univ (ℓ := ℓ) (fun p : Piece => S p.1.1 p.1.2 p.2.val), hcov]
    intro p _ p' _ hne
    refine Finset.disjoint_left.mpr fun j h h' => hne ?_
    exact start_inj ((hS p.1.1 p.1.2 p.2.val j).mp h) ((hS p'.1.1 p'.1.2 p'.2.val j).mp h')
  rw [e, bigSep_univ_prod, bigSep_univ_prod]
  refine bigSep_congr fun c _ => bigSep_congr fun s _ => ?_
  rw [← Nat.Iio_eq_range, ← Fin.map_valEmbedding_univ, bigSep_map]
  rfl

end Cert.Proof.KI

end
-- ==== Proof.IdealTask.lean ====
/-
  A tile's task from what the launch gives its thread: the scratch buffers and the semaphores are the thread's own.
-/
module

public import proofs.«01_k».proof.Proof.IdealSplit

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (i : grid0.Coords)

/-! ## What the thread owns -/

/-- The kernel's semaphores. -/
def sems : Fin 8 → DmaSems sig S_ :=
  ![cc0_scratch8, cc0_scratch9, cc0_scratch10, cc0_scratch11, cc0_scratch12, cc0_scratch13, cc0_scoped0, cc0_scoped1]

/-- The kernel's scratch buffers. -/
def bufs : Fin 8 → Ref sig .scVector :=
  ![cc0_scratch0, cc0_scratch1, cc0_scratch2, cc0_scratch3, cc0_scratch4, cc0_scratch5, cc0_scratch6, cc0_scratch7]

def cell (k : Fin 8) : GSem nD τ sig := (thr d i, .dma (sems k).sem)

theorem sem_inj : Function.Injective fun k : Fin 8 => (sems k).sem := by decide
theorem sem_scoped : ∀ k : Fin 8, (SemLoc.dma (sems k).sem : SemLoc sig).isScoped .scVector = true := by decide
theorem buf_inj : Function.Injective bufs := by decide

theorem cell_inj : Function.Injective (cell d i) := fun _ _ e => sem_inj (SemLoc.dma.inj (Prod.mk.inj e).2)

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ownSems0_thr :
    (ownSems0 (thr d i) : sProp 𝕄)
      = iprop((bigSep Finset.univ fun k => semVal (cell d i k) 0)
          ∗ bigSep (ownCells (thr d i) \ Finset.univ.image (cell d i)) fun g => semVal g 0) := by
  unfold SparseCore.Cfg.ownSems0
  rw [SparseCore.bigSep_sdiff_split' (t := Finset.univ.image (cell d i)) fun g hg => by
      obtain ⟨k, -, rfl⟩ := Finset.mem_image.mp hg
      exact mem_ownCells.mpr ⟨rfl, sem_scoped k⟩,
    SparseCore.bigSep_image_of_injOn (cell_inj d i).injOn]

def bref (k : Fin 8) : DevRef τ sig := (thr d i).2.devRef (bufs k)

theorem bref_mem : ∀ k : Fin 8, bref d i k ∈ ownRefs (τ := τ) (thr d i).2 := fun k => SparseCore.Cfg.mem_ownRefs_of_owner (p := (thr d i).2) <|
  match k with | 0 => rfl | 1 => rfl | 2 => rfl | 3 => rfl | 4 => rfl | 5 => rfl | 6 => rfl | 7 => rfl

theorem bref_inj : Function.Injective (bref d i) := fun _ _ e => buf_inj (Proc.devRef_injective _ e)

theorem ownBufs_thr :
    (ownBufs (thr d i) : sProp 𝕄)
      = iprop((bigSep Finset.univ fun k => iprop(∃ f, (thr d i).loc (bufs k) ↦{fullShare} f))
          ∗ bigSep (ownRefs (τ := τ) (thr d i).2 \ Finset.univ.image (bref d i)) fun b => iprop(∃ f, ((d, b) : Loc nD τ sig) ↦{fullShare} f)) := by
  unfold SparseCore.Cfg.ownBufs
  rw [SparseCore.bigSep_sdiff_split' (t := Finset.univ.image (bref d i)) fun b hb => by
      obtain ⟨k, -, rfl⟩ := Finset.mem_image.mp hb
      exact bref_mem d i k,
    SparseCore.bigSep_image_of_injOn (bref_inj d i).injOn]
  rfl

theorem any_whole (b : Ref sig .scVector) :
    (Any (F := F) d i (Memref.whole b) : sProp 𝕄) = iprop(∃ f, (thr d i).loc b ↦{fullShare} f) := by
  have e : ∀ f : Buf (Elt F) ((thr d i).loc b), (Has (thr d i) (Memref.whole b) fullShare f : sProp 𝕄) = ((thr d i).loc b ↦{fullShare} f) := fun f =>
    (has_eq (thr d i) (Memref.whole b) fullShare f (View.read_whole (Val := Elt F) b f)).trans
      (congrArg (fun s => ((thr d i).loc b ↦[s]{fullShare} f : sProp 𝕄)) (View.set_whole b))
  show iprop(∃ f : Buf (Elt F) ((thr d i).loc b), Has (thr d i) (Memref.whole b) fullShare f) = _
  simp only [e]

/-! ## The task -/

/-- The tile's scratch, all told. -/
abbrev ScrK : sProp 𝕄 :=
  Scr d i (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    cc0_scratch8 cc0_scratch9 cc0_scratch10 cc0_scratch11 cc0_scratch12 cc0_scratch13

/-- A tile's shares of the two tables. -/
def Tb (q : PosShare TreeShare) (T1 T2 : S2080.Idx → BitVec 32) : sProp 𝕄 :=
  iprop(Has (e := .i32) (thr d i) c0W q T1 ∗ Has (e := .i32) (thr d i) c1W q T2)

instance Tb_storable (q : PosShare TreeShare) (T1 T2 : S2080.Idx → BitVec 32) : BI.Storable (upEmb : UEmb _ 𝕄) (Tb (F := F) d i q T1 T2) := by
  unfold Tb; infer_instance

theorem own_scr (q : PosShare TreeShare) (T1 T2 : S2080.Idx → BitVec 32) :
    iprop((bigSep Finset.univ fun k => iprop(∃ f, (thr d i).loc (bufs k) ↦{fullShare} f)) ∗ (bigSep Finset.univ fun k => semVal (cell d i k) 0) ∗ Tb d i q T1 T2)
      ⊣⊢ (iprop(ScrK d i ∗ Src d i c0W c1W cc0_scoped0 cc0_scoped1 q T1 T2) : sProp 𝕄) := by
  rw [bigSep_eight, bigSep_eight]
  have e := fun b => (any_whole (F := F) d i b).symm
  simp only [e]
  unfold ScrK Scr Src Tb
  constructor
  · iintro ⟨⟨H0, H1, H2, H3, H4, H5, H6, H7⟩, ⟨S0, S1, S2, S3, S4, S5, S6, S7⟩, T0, T1⟩
    isplitr [S6 S7 T0 T1]
    · isplitl [H0 S0]
      · isplitl [H0]; · iexact H0
        iexact S0
      isplitl [H1 S1]
      · isplitl [H1]; · iexact H1
        iexact S1
      isplitl [H2 H3]
      · isplitl [H2]; · iexact H2
        iexact H3
      isplitl [H4 S4]
      · isplitl [H4]; · iexact H4
        iexact S4
      isplitl [H5 S5]
      · isplitl [H5]; · iexact H5
        iexact S5
      isplitl [H6 S2]
      · isplitl [H6]; · iexact H6
        iexact S2
      isplitl [H7]; · iexact H7
      iexact S3
    isplitl [S6 T0]
    · isplitl [T0]; · iexact T0
      iexact S6
    isplitl [T1]; · iexact T1
    iexact S7
  · iintro ⟨⟨⟨H0, S0⟩, ⟨H1, S1⟩, ⟨H2, H3⟩, ⟨H4, S4⟩, ⟨H5, S5⟩, ⟨H6, S2⟩, H7, S3⟩, ⟨T0, S6⟩, T1, S7⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitr [T0 T1]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [T0]; · iexact T0
    iexact T1

variable (X : S16384x2144.Idx → F .f32) {T1 T2 : S2080.Idx → BitVec 32}

/-- The task of the tile at `i`, from what its thread is handed: its rows of `X`, its rows of the results, its shares of the tables. -/
theorem tile_task (hT : TblOK T1 T2) (q : PosShare TreeShare) (O : CellTallies nD τ sig (HIx 1)) (W : Waits sig (HIx 1)) (hO : ∀ g, O g none = 0) :
    iprop(levAts (K (F := F)).L (K (F := F)).lev ∗ emp
        ∗ (Tb d i q T1 T2 ∗ bigSep (Finset.range 128) (HX d i X xW) ∗ bigSep (Finset.range 128) (HLO0 d i lW oW))
        ∗ scopedBufs (thr d i) ∗ scopedSems0 (thr d i) ∗ owes (thr d i) O W)
      ⊢ wp (M := 𝕄) frame (wpE defs₀ 𝒱₀ (thr d i) none) Set.univ
          (cc0__sc_body (F := F) i xW (Memref.isWhole_whole _) c0W (Memref.isWhole_whole _) c1W (Memref.isWhole_whole _) lW (Memref.isWhole_whole _)
            oW (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4)
            (Memref.isWhole_whole _) (Memref.whole cc0_scratch5) (Memref.isWhole_whole _) (Memref.whole cc0_scratch6) (Memref.isWhole_whole _)
            (Memref.whole cc0_scratch7) (Memref.isWhole_whole _) cc0_scratch8 cc0_scratch9 cc0_scratch10 cc0_scratch11 cc0_scratch12 cc0_scratch13
            cc0_scoped0 cc0_scoped1)
          fun _ => iprop((Tb d i q T1 T2 ∗ bigSep (Finset.range 128) (HX d i X xW) ∗ bigSep (Finset.range 128) fun g => iprop(HO d i X oW g ∗ HL d i X lW g))
            ∗ scopedBufs (thr d i) ∗ scopedSems0 (thr d i) ∗ ∃ W', ⌜∀ p ∈ W', p ∈ W ∨ p.2 = none⌝ ∗ owes (thr d i) O W') := by
  rw [(K (F := F)).scopedBufs_V facts d _ _, SparseCore.Cfg.scopedSems0_V (Val := Elt F) d _ _, ownSems0_thr, ownBufs_thr]
  iintro ⟨#Hlv, -, ⟨Ht, Hx, Hlo⟩, ⟨Hb, Hbr⟩, ⟨Hs, Hsr⟩, HO⟩
  ihave #Hm := ((K (F := F)).mayWaits_none (thr := thr d i) hO) $$ Hlv
  ihave H := (own_scr d i q T1 T2).1 $$ [Hb Hs Ht]
  · isplitl [Hb]; · iexact Hb
    isplitl [Hs] <;> iassumption
  icases H with ⟨Hscr, Hsrc⟩
  iapply (wp_wand_r frame (wpE defs₀ 𝒱₀ (thr d i) none) Set.univ)
  isplitl [Hscr Hsrc Hx Hlo HO]
  · iapply (tile d i X hT q (O := O) (W := W))
    isplitl [Hscr]; · iexact Hscr
    isplitl [Hsrc]; · iexact Hsrc
    isplitl [Hx]; · iexact Hx
    isplitl [Hlo]; · iexact Hlo
    unfold Owe
    isplitr; · iexact Hm
    iexists W
    isplitr
    · ipureintro; exact fun p hp => Or.inl hp
    · iexact HO
  iintro %r ⟨Hscr, Hsrc, Hx, Hlo, HO⟩
  ihave H := (own_scr d i q T1 T2).2 $$ [Hscr Hsrc]
  · isplitl [Hscr] <;> iassumption
  icases H with ⟨Hb, Hs, Ht⟩
  isplitl [Ht Hx Hlo]
  · isplitl [Ht]; · iexact Ht
    isplitl [Hx]; · iexact Hx
    iexact Hlo
  isplitl [Hb Hbr]
  · isplitl [Hb] <;> iassumption
  isplitl [Hs Hsr]
  · isplitl [Hs] <;> iassumption
  unfold Owe
  icases HO with ⟨-, HO⟩
  iexact HO

end Cert.Proof.KI

end
-- ==== Proof.IdealLaunch.lean ====
/-
  The launch: what the kernel's call hands each tile and takes back, and the program's run.
-/
module

public import proofs.«01_k».proof.Proof.IdealTask

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.Rounds
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tables -/

def tbl1 : S2080.Idx → BitVec 32 := fun j => lit0 (S2080.rowMajor j)
def tbl2 : S2080.Idx → BitVec 32 := fun j => lit1 (S2080.rowMajor j)

/-- The two tables list the row and the column of each entry of the lower triangle, row by row. -/
theorem tbl_ok : TblOK tbl1 tbl2 := by
  unfold TblOK
  decide +kernel

/-- The share of the tables a tile reads at. -/
def tok (c : Fin (grid0.bound 0)) (s : Fin (grid0.bound 1)) : PosShare TreeShare :=
  Transfers.shareTok fullShare 32 (finProdFinEquiv (m := 2) (n := 16) (c, s))

/-- A table whole is the tiles' shares of it, and one left over. -/
theorem table_split {ℓ : Loc nD τ sig} (f : Buf (Elt F) ℓ) :
    (ℓ ↦{fullShare} f) ⊢ (bigSep Finset.univ fun c : Fin (grid0.bound 0) => bigSep Finset.univ fun s : Fin (grid0.bound 1) => ℓ ↦{tok c s} f : sProp 𝕄) := by
  have e : (bigSep Finset.univ fun k : Fin 32 => (ℓ ↦{Transfers.shareTok fullShare 32 k} f : sProp 𝕄))
      = bigSep Finset.univ fun c : Fin 2 => bigSep Finset.univ fun s : Fin 16 => ℓ ↦{Transfers.shareTok fullShare 32 (finProdFinEquiv (m := 2) (n := 16) (c, s))} f := by
    rw [bigSep_univ_equiv (finProdFinEquiv (m := 2) (n := 16)), bigSep_univ_prod]
  iintro H
  ihave H' := (Transfers.pointsTo_toks_split (ℓ := ℓ) (S := Finset.univ) (f := f) fullShare 32) $$ H
  icases H' with ⟨-, H'⟩
  ihave H'' := (Entails.of_eq e) $$ H'
  iexact H''

/-! ## What a tile is handed, and what it hands back -/

/-- The array the kernel is called at. -/
abbrev arr (d : Fin nD) : S16384x2144.Idx → F .f32 := m (xLoc d)

def goT (d : Fin nD) (c : Fin (grid0.bound 0)) (s : Fin (grid0.bound 1)) : sProp 𝕄 :=
  iprop(Tb d (coordsV c s) (tok c s) tbl1 tbl2 ∗ bigSep (Finset.range 128) (HX d (coordsV c s) (arr m d) xW) ∗ bigSep (Finset.range 128) (HLO0 d (coordsV c s) lW oW))

def tdT (d : Fin nD) (c : Fin (grid0.bound 0)) (s : Fin (grid0.bound 1)) : sProp 𝕄 :=
  iprop(Tb d (coordsV c s) (tok c s) tbl1 tbl2 ∗ bigSep (Finset.range 128) (HX d (coordsV c s) (arr m d) xW)
    ∗ bigSep (Finset.range 128) fun g => iprop(HO d (coordsV c s) (arr m d) oW g ∗ HL d (coordsV c s) (arr m d) lW g))

instance HX_storable (d : Fin nD) (i : grid0.Coords) (X : S16384x2144.Idx → F .f32) (g : ℕ) : BI.Storable (upEmb : UEmb _ 𝕄) (HX d i X xW g) := by
  unfold HX; infer_instance
instance HL_storable (d : Fin nD) (i : grid0.Coords) (X : S16384x2144.Idx → F .f32) (g : ℕ) : BI.Storable (upEmb : UEmb _ 𝕄) (HL d i X lW g) := by
  unfold HL; infer_instance
instance HO_storable (d : Fin nD) (i : grid0.Coords) (X : S16384x2144.Idx → F .f32) (g : ℕ) : BI.Storable (upEmb : UEmb _ 𝕄) (HO d i X oW g) := by
  unfold HO; infer_instance
instance HLO0_storable (d : Fin nD) (i : grid0.Coords) (g : ℕ) : BI.Storable (upEmb : UEmb _ 𝕄) (HLO0 (F := F) d i lW oW g) := by
  unfold HLO0; infer_instance

instance goT_storable (d : Fin nD) (c : Fin (grid0.bound 0)) (s : Fin (grid0.bound 1)) : BI.Storable (upEmb : UEmb _ 𝕄) (goT m d c s) := by
  unfold goT; infer_instance
instance tdT_storable (d : Fin nD) (c : Fin (grid0.bound 0)) (s : Fin (grid0.bound 1)) : BI.Storable (upEmb : UEmb _ 𝕄) (tdT m d c s) := by
  unfold tdT; infer_instance

/-- A SparseCore is handed what its tiles are. -/
def stT (d : Fin nD) (c : Fin (grid0.bound 0)) : sProp 𝕄 := bigSep Finset.univ fun s => goT m d c s
def dnT (d : Fin nD) (c : Fin (grid0.bound 0)) : sProp 𝕄 := bigSep Finset.univ fun s => tdT m d c s

instance stT_storable (d : Fin nD) (c : Fin (grid0.bound 0)) : BI.Storable (upEmb : UEmb _ 𝕄) (stT m d c) := by
  unfold stT; infer_instance
instance dnT_storable (d : Fin nD) (c : Fin (grid0.bound 0)) : BI.Storable (upEmb : UEmb _ 𝕄) (dnT m d c) := by
  unfold dnT; infer_instance

theorem nCore_zero : (K (F := F)).nCore 0 = grid0.bound 0 := rfl
theorem nSub_zero : (K (F := F)).nSub 0 = grid0.bound 1 := rfl

def P : (K (F := F)).Pay (nD := nD) (Val := Elt F) (Name := ℕ) (U := UU) where
  st := fun q d c => match q with | 0 => stT m d (Fin.cast nCore_zero c)
  dn := fun q d c => match q with | 0 => dnT m d (Fin.cast nCore_zero c)
  go := fun q d c s => match q with | 0 => goT m d (Fin.cast nCore_zero c) (Fin.cast nSub_zero s)
  td := fun q d c s => match q with | 0 => tdT m d (Fin.cast nCore_zero c) (Fin.cast nSub_zero s)
  x := fun _ _ => iprop(emp)

instance P_storable : (P (F := F) m).IsStorable where
  st q d _ := match q with | 0 => by unfold P; dsimp only; infer_instance
  dn q d _ := match q with | 0 => by unfold P; dsimp only; infer_instance
  go q d _ _ := match q with | 0 => by unfold P; dsimp only; infer_instance
  td q d _ _ := match q with | 0 => by unfold P; dsimp only; infer_instance

theorem defs₀_vector (c : Fin τ.nSC) (s : Fin τ.nSub) :
    defs₀ (F := F) (.scVector c s) 0 ()
      = SparseCore.onTile hcore0 hsub0 (fun c s => cc0__sc_body (coordsV c s) xW (Memref.isWhole_whole _) c0W (Memref.isWhole_whole _) c1W (Memref.isWhole_whole _)
            lW (Memref.isWhole_whole _) oW (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4)
            (Memref.isWhole_whole _) (Memref.whole cc0_scratch5) (Memref.isWhole_whole _) (Memref.whole cc0_scratch6) (Memref.isWhole_whole _)
            (Memref.whole cc0_scratch7) (Memref.isWhole_whole _) cc0_scratch8 cc0_scratch9 cc0_scratch10 cc0_scratch11 cc0_scratch12 cc0_scratch13
            cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) (arr m d) tbl_ok (tok ⟨_, hc.1⟩ ⟨_, hc.2⟩) O W hO).trans (wp_mono frame _ _ fun _ => obl_post)

theorem bigSep_tasks (Φ : Fin (grid0.bound 1) → sProp 𝕄) :
    (bigSep Finset.univ fun s : Fin ((K (F := F)).nSub 0) => Φ (Fin.cast nSub_zero s)) = bigSep Finset.univ Φ :=
  bigSep_congr fun _ _ => congrArg Φ (Fin.ext rfl)

theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem P_st (d : Dev nD) (c : Fin ((K (F := F)).nCore 0)) : (P m).st 0 d c = stT m d (Fin.cast nCore_zero c) := by
  unfold P; dsimp only
theorem P_dn (d : Dev nD) (c : Fin ((K (F := F)).nCore 0)) : (P m).dn 0 d c = dnT m d (Fin.cast nCore_zero c) := by
  unfold P; dsimp only
theorem P_go (d : Dev nD) (c : Fin ((K (F := F)).nCore 0)) (s : Fin ((K (F := F)).nSub 0)) :
    (P m).go 0 d c s = goT m d (Fin.cast nCore_zero c) (Fin.cast nSub_zero s) := by
  unfold P; dsimp only
theorem P_td (d : Dev nD) (c : Fin ((K (F := F)).nCore 0)) (s : Fin ((K (F := F)).nSub 0)) :
    (P m).td 0 d c s = tdT m d (Fin.cast nCore_zero c) (Fin.cast nSub_zero s) := by
  unfold P; dsimp only

theorem hand_over {A B A' B' : sProp 𝕄} (hA : A' = A) (hB : B' = B) : A ⊢ |={Set.univ}=> iprop(A' ∗ (B' -∗ B)) := by
  subst hA hB
  iintro H; imodintro
  isplitl [H]; · iexact H
  iintro H; iexact H

theorem vecSplit : (K (F := F)).VecSplit' (P m) 0 := fun d c =>
  hand_over (A := (P m).st 0 d c) (B := (P m).dn 0 d c)
    (by simp only [P_go, P_st, stT]; exact bigSep_tasks (F := F) (fun s => goT m d (Fin.cast nCore_zero c) s))
    (by simp only [P_td, P_dn, dnT]; exact bigSep_tasks (F := F) (fun s => tdT m d (Fin.cast nCore_zero c) s))

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## The arrays, to the tiles and back -/

theorem Tb_eq (d : Fin nD) (i : grid0.Coords) (q : PosShare TreeShare) (f g : S2080.Idx → BitVec 32) :
    (Tb d i q f g : sProp 𝕄) = iprop((c0Loc d ↦{q} f) ∗ c1Loc d ↦{q} g) := by
  unfold Tb
  rw [has_eq (F := F) (e := .i32) (thr d i) c0W q f (View.read_whole (Val := Elt F) main_c_scv f), has_eq (F := F) (e := .i32) (thr d i) c1W q g (View.read_whole (Val := Elt F) main_c_0_scv g),
    show c0W.view.set = Finset.univ from View.set_whole main_c_scv, show c1W.view.set = Finset.univ from View.set_whole main_c_0_scv]

theorem rows_x (d : Fin nD) (X : S16384x2144.Idx → F .f32) :
    (xLoc d ↦{fullShare} X : sProp 𝕄) = bigSep Finset.univ fun c => bigSep Finset.univ fun s => bigSep (Finset.range 128) (HX d (coordsV c s) X xW) := by
  rw [split_rows (ℓ := xLoc d) fullShare X (fun j : S16384x2144.Idx => (j 0).val) (fun j : S16384x2144.Idx => (j 0).isLt) (fun c s g => xSet d (coordsV c s) g) fun c s g j => mem_xSet d (coordsV c s) g j]
  exact bigSep_congr fun c _ => bigSep_congr fun s _ => bigSep_congr fun g _ => (HX_eq d (coordsV c s) X g).symm

theorem rows_l (d : Fin nD) (f : S16384x64.Idx → F .f32) :
    (lLoc d ↦{fullShare} f : sProp 𝕄) = bigSep Finset.univ fun c => bigSep Finset.univ fun s => bigSep (Finset.range 128) fun g => lLoc d ↦[lSet d (coordsV c s) g]{fullShare} f :=
  split_rows (ℓ := lLoc d) fullShare f (fun j : S16384x64.Idx => (j 0).val) (fun j : S16384x64.Idx => (j 0).isLt) (fun c s g => lSet d (coordsV c s) g) fun c s g j => mem_lSet d (coordsV c s) g j

theorem rows_o (d : Fin nD) (f : S16384x64x64.Idx → F .f32) :
    (oLoc d ↦{fullShare} f : sProp 𝕄) = bigSep Finset.univ fun c => bigSep Finset.univ fun s => bigSep (Finset.range 128) fun g => oLoc d ↦[oSet d (coordsV c s) g]{fullShare} f :=
  split_rows (ℓ := oLoc d) fullShare f (fun j : S16384x64x64.Idx => (j 0).val) (fun j : S16384x64x64.Idx => (j 0).isLt) (fun c s g => oSet d (coordsV c s) g) fun c s g j => mem_oSet d (coordsV c s) g j

/-- The five arrays, as what the tiles are handed. -/
theorem to_tiles (d : Fin nD) (f : S16384x64.Idx → F .f32) (f' : S16384x64x64.Idx → F .f32) :
    iprop((xLoc d ↦{fullShare} m (xLoc d)) ∗ (c0Loc d ↦{fullShare} tbl1) ∗ (c1Loc d ↦{fullShare} tbl2) ∗ (lLoc d ↦{fullShare} f) ∗ oLoc d ↦{fullShare} f')
      ⊢ (bigSep Finset.univ fun c => bigSep Finset.univ fun s => goT m d c s : sProp 𝕄) := by
  have e : (bigSep Finset.univ fun c => bigSep Finset.univ fun s => goT m d c s : sProp 𝕄)
      = iprop(((bigSep Finset.univ fun c => bigSep Finset.univ fun s => c0Loc d ↦{tok c s} tbl1)
          ∗ (bigSep Finset.univ fun c => bigSep Finset.univ fun s => c1Loc d ↦{tok c s} tbl2))
          ∗ (xLoc d ↦{fullShare} m (xLoc d))
          ∗ bigSep Finset.univ fun c => bigSep Finset.univ fun s => bigSep (Finset.range 128) (HLO0 d (coordsV c s) lW oW)) := by
    rw [rows_x d (m (xLoc d))]
    simp only [goT, Tb_eq, bigSep_sep']
  have h : iprop((lLoc d ↦{fullShare} f) ∗ oLoc d ↦{fullShare} f')
      ⊢ (bigSep Finset.univ fun c => bigSep Finset.univ fun s => bigSep (Finset.range 128) (HLO0 d (coordsV c s) lW oW) : sProp 𝕄) := by
    rw [rows_l d f, rows_o d f']
    simp only [← bigSep_sep']
    exact bigSep_mono fun c _ => bigSep_mono fun s _ => bigSep_mono fun g _ => HLO0_of d (coordsV c s) f f' g
  rw [e]
  iintro ⟨Hx, H0, H1, Hl, Ho⟩
  isplitl [H0 H1]
  · isplitl [H0]
    · iapply (table_split (F := F) (ℓ := c0Loc d)); iexact H0
    · iapply (table_split (F := F) (ℓ := c1Loc d)); iexact H1
  isplitl [Hx]; · iexact Hx
  iapply h
  isplitl [Hl] <;> iassumption

/-- What the tiles hand back is the array as it was, and the two results. -/
theorem of_tiles (d : Fin nD) :
    (bigSep Finset.univ fun c => bigSep Finset.univ fun s => tdT m d c s : sProp 𝕄)
      ⊢ iprop((xLoc d ↦{fullShare} m (xLoc d)) ∗ (lLoc d ↦{fullShare} locVal (arr m d)) ∗ oLoc d ↦{fullShare} outVal (arr m d)) := by
  have e : (bigSep Finset.univ fun c => bigSep Finset.univ fun s => tdT m d c s : sProp 𝕄)
      = iprop((bigSep Finset.univ fun c => bigSep Finset.univ fun s => Tb d (coordsV c s) (tok c s) tbl1 tbl2)
          ∗ (xLoc d ↦{fullShare} m (xLoc d)) ∗ (oLoc d ↦{fullShare} outVal (arr m d)) ∗ lLoc d ↦{fullShare} locVal (arr m d)) := by
    rw [rows_x d (m (xLoc d)), rows_l, rows_o]
    simp only [tdT, bigSep_sep', HL_eq, HO_eq]
  rw [e]
  iintro ⟨-, Hx, Ho, Hl⟩
  isplitl [Hx]; · iexact Hx
  isplitl [Hl] <;> iassumption

end Cert.Proof.KI

end
-- ==== Proof.IdealRun.lean ====
/-
  The program's run: the two tables are set down, the kernel is called once, and the results are what the tiles left.
-/
module

public import proofs.«01_k».proof.Proof.IdealLaunch

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.Rounds
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays of @main -/

abbrev x' : DevRef τ sig := Proc.devRef .tc (main_arg0 : Ref sig .tc)
abbrev c0' : DevRef τ sig := Proc.devRef .tc (main_c : Ref sig .tc)
abbrev c1' : DevRef τ sig := Proc.devRef .tc (main_c_0 : Ref sig .tc)
abbrev l' : DevRef τ sig := Proc.devRef .tc (main_v0_0 : Ref sig .tc)
abbrev o' : DevRef τ sig := Proc.devRef .tc (main_v0_1 : Ref sig .tc)
abbrev op1 : HloOp τ sig (Elt F) := StableHlo.nullary main_c tbl1
abbrev op2 : HloOp τ sig (Elt F) := StableHlo.nullary main_c_0 tbl2

abbrev S5 : Finset (DevRef τ sig) := {x', c0', c1', l', o'}

theorem held_S5 (d : Dev nD) (W : Valuation τ sig (Elt F)) :
    (held (SparseCore.T d) S5 W : sProp 𝕄)
      = iprop((xLoc d ↦{fullShare} W x') ∗ (c0Loc d ↦{fullShare} W c0') ∗ (c1Loc d ↦{fullShare} W c1') ∗ (lLoc d ↦{fullShare} W l') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (c0Loc d ↦{fullShare} W main_c) ∗ (c1Loc d ↦{fullShare} W main_c_0)
          ∗ (lLoc d ↦{fullShare} W main_v0_0) ∗ oLoc d ↦{fullShare} W main_v0_1) := by
  unfold unscopedBufs
  rw [show (Finset.univ.filter fun b : Ref sig .tc => ¬ b.isScoped) = {main_arg0, main_c, main_c_0, main_v0_0, main_v0_1} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (SparseCore.T d) S5 (V0 m d) := by
  rw [unscopedBufs_eq, held_S5]; rfl

theorem h1 : (op1 (F := F)).bufs ⊆ S5 := show ({c0'} : Finset (DevRef τ sig)) ⊆ S5 by decide
theorem h2 : (op2 (F := F)).bufs ⊆ S5 := show ({c1'} : Finset (DevRef τ sig)) ⊆ S5 by decide

/-- The arrays when the kernel is called: the two tables in place. -/
theorem held_tables (d : Dev nD) :
    (held (SparseCore.T d) S5 ((op2 (F := F)).result ((op1 (F := F)).result (V0 m d))) : sProp 𝕄)
      = iprop((xLoc d ↦{fullShare} m (xLoc d)) ∗ (c0Loc d ↦{fullShare} tbl1) ∗ (c1Loc d ↦{fullShare} tbl2)
          ∗ (lLoc d ↦{fullShare} m (lLoc d)) ∗ oLoc d ↦{fullShare} m (oLoc d)) := by
  have n1 : ∀ {r : Ref sig .tc} (W : Valuation τ sig (Elt F)), r ≠ main_c → (op1 (F := F)).result W (Proc.devRef .tc r) = W (Proc.devRef .tc r) :=
    fun W h => StableHlo.nullary_result_ne _ _ _ W h
  have n2 : ∀ {r : Ref sig .tc} (W : Valuation τ sig (Elt F)), r ≠ main_c_0 → (op2 (F := F)).result W (Proc.devRef .tc r) = W (Proc.devRef .tc r) :=
    fun W h => StableHlo.nullary_result_ne _ _ _ W h
  rw [held_S5, n2 _ (show (main_arg0 : Ref sig .tc) ≠ main_c_0 by decide), n1 _ (show (main_arg0 : Ref sig .tc) ≠ main_c by decide),
    n2 _ (show (main_c : Ref sig .tc) ≠ main_c_0 by decide), n2 _ (show (main_v0_0 : Ref sig .tc) ≠ main_c_0 by decide),
    n1 _ (show (main_v0_0 : Ref sig .tc) ≠ main_c by decide), n2 _ (show (main_v0_1 : Ref sig .tc) ≠ main_c_0 by decide),
    n1 _ (show (main_v0_1 : Ref sig .tc) ≠ main_c by decide),
    show (op1 (F := F)).result (V0 m d) c0' = tbl1 from StableHlo.nullary_result main_c _ _ _,
    show (op2 (F := F)).result ((op1 (F := F)).result (V0 m d)) c1' = tbl2 from StableHlo.nullary_result main_c_0 _ _ _]
  rfl

theorem st0_eq (d : Dev nD) : (bigSep Finset.univ fun c : Fin ((K (F := F)).nCore 0) => (P m).st 0 d c) = bigSep Finset.univ fun c => bigSep Finset.univ fun s => goT m d c s := by
  simp only [P_st]
  exact bigSep_cores (F := F) (stT m d)

theorem dn0_eq (d : Dev nD) : (bigSep Finset.univ fun c : Fin ((K (F := F)).nCore 0) => (P m).dn 0 d c) = bigSep Finset.univ fun c => bigSep Finset.univ fun s => tdT m d c s := by
  simp only [P_dn]
  exact bigSep_cores (F := F) (dnT m d)

/-- What @main leaves. -/
abbrev FIN (d : Dev nD) : sProp 𝕄 :=
  iprop((xLoc d ↦{fullShare} m (xLoc d)) ∗ (lLoc d ↦{fullShare} locVal (arr m d)) ∗ oLoc d ↦{fullShare} outVal (arr m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S5) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S5) h2 (V := (op1 (F := F)).result (V0 m d))) $$ [Hb Hheld]
  · isplitl [Hb] <;> iassumption
  iintro ⟨Hb, Hheld⟩
  rw [wp_ret]; imodintro
  ihave Hh := (Entails.of_eq (held_tables m d)) $$ Hheld
  iapply ((K (F := F)).wp_run (D (F := F)) 𝒱 (EH := EH) (P := P m) κ d 0) $$ [Hst Hh Hb Hts]
  isplitr; · iexact Hctx
  isplitl [Hst]; · iexact Hst
  isplitl [Hh]
  · rw [st0_eq]
    iapply (to_tiles m d); iexact Hh
  iintro ⟨Hst, Hdn⟩
  ihave Hdn' := (Entails.of_eq (dn0_eq m d)) $$ Hdn
  ihave Hf := (of_tiles m d) $$ Hdn'
  imodintro
  isplitl [Hst]; · iexact Hst
  isplitl [Hf]; · iexact Hf
  isplitl [Hb] <;> iassumption

def fq (d : Dev nD) (s' : Phys nD τ sig (Elt F)) : Prop :=
  s'.mem.mem (xLoc d) = m (xLoc d) ∧ s'.mem.mem (lLoc d) = locVal (arr m d) ∧ s'.mem.mem (oLoc d) = outVal (arr m d)

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  refine (persistent_entails_right h).trans ?_
  iintro ⟨H, -, HSI⟩
  isplitl [H] <;> iassumption

theorem hfin (d : Dev nD) (s' : Phys nD τ sig (Elt F)) : iprop(FIN m d ∗ SI s') ⊢ (⌜fq m d s'⌝ : sProp 𝕄) := by
  iintro ⟨⟨Hx, Hl, Ho⟩, HSI⟩
  ihave H := (agree s' (xLoc d) (m (xLoc d))) $$ [Hx HSI]
  · isplitl [Hx] <;> iassumption
  icases H with ⟨%hx, HSI⟩
  ihave H := (agree s' (lLoc d) (locVal (arr m d))) $$ [Hl HSI]
  · isplitl [Hl] <;> iassumption
  icases H with ⟨%hl, HSI⟩
  ihave H := (agree s' (oLoc d) (outVal (arr m d))) $$ [Ho HSI]
  · isplitl [Ho] <;> iassumption
  icases H with ⟨%ho, HSI⟩
  ipureintro; exact ⟨hx, hl, ho⟩

/-- What the program's run ends with. -/
def QC : PUnit × MemSt nD τ sig (Elt F) → Prop := fun r =>
  (∀ d : Dev nD, r.2.mem (xLoc d) = m (xLoc d) ∧ r.2.mem (lLoc d) = locVal (arr m d) ∧ r.2.mem (oLoc d) = outVal (arr m d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI

end
-- ==== Proof.Pick.lean ====
/-
  Placing and picking entries of a batch of 64×64 matrices by pairs of index words, the way the reference does it: the
  index words of a pair of tables, where an update lands, which element a gather reads, and the result of writing a whole
  table of updates. Stated for any number of matrices and any number of pairs.
-/
module

public import proofs.«01_k».proof.Proof.Vals
public import Idealize.ShloMosaic.Lib.Routing.OpsSet
public import Idealize.ShloMosaic.Lib.Routing.OpsPair
public import Idealize.ShloMosaic.Lib.Pipeline.Value

@[expose] public section

noncomputable section

namespace Cert.Proof

open Idealize.ShloMosaic Idealize.ShloMosaic.ValueIdx Idealize.ShloMosaic.Routing

variable {α : Type} {N M : ℕ}

/-! ## The index words -/

/-- jnp's wrap of an index leaves a table of words below 64 as it is. -/
theorem wrap_tbl (T : IVec ⟨1, ![M]⟩ 32) (h : ∀ j, (T j).toNat < 64) (hb : (⟨0, ![]⟩ : Shape).BroadcastsInDim ⟨1, ![M]⟩ ![]) :
    select (cmpi .slt T (broadcastInDim ⟨1, ![M]⟩ ![] hb (constantI ⟨0, ![]⟩ 32 0#32))) (addi T (broadcastInDim ⟨1, ![M]⟩ ![] hb (constantI ⟨0, ![]⟩ 32 64#32))) T = T :=
  funext fun j => wrap_of_lt (T j) _ (by have := h j; omega)

/-- Two tables side by side, as columns of index words. -/
def pairs (T1 T2 : IVec ⟨1, ![M]⟩ 32) (hb : (⟨1, ![M]⟩ : Shape).BroadcastsInDim ⟨2, ![M, 1]⟩ ![0])
    (hc : Shape.Concatenates [⟨2, ![M, 1]⟩, ⟨2, ![M, 1]⟩] ⟨2, ![M, 2]⟩ 1) : IVec ⟨2, ![M, 2]⟩ 32 :=
  concatenate ⟨2, ![M, 2]⟩ 1 [⟨⟨2, ![M, 1]⟩, broadcastInDim ⟨2, ![M, 1]⟩ ![0] hb T1⟩, ⟨⟨2, ![M, 1]⟩, broadcastInDim ⟨2, ![M, 1]⟩ ![0] hb T2⟩] hc

variable (T1 T2 : IVec ⟨1, ![M]⟩ 32) (hb : (⟨1, ![M]⟩ : Shape).BroadcastsInDim ⟨2, ![M, 1]⟩ ![0])
  (hc : Shape.Concatenates [⟨2, ![M, 1]⟩, ⟨2, ![M, 1]⟩] ⟨2, ![M, 2]⟩ 1)

theorem column (T : IVec ⟨1, ![M]⟩ 32) (n : Fin M) : broadcastInDim ⟨2, ![M, 1]⟩ ![0] hb T (ix2 n 0) = T (ix1 n) :=
  broadcastInDim_apply _ hb T _ _ fun b => match b with
    | ⟨0, _⟩ => by
      show n.val = if M = 1 then 0 else n.val
      split
      · have := n.isLt; omega
      · rfl

theorem pairs_fst (n : Fin M) : pairs T1 T2 hb hc (ix2 n 0) = T1 (ix1 n) :=
  (concatenate_pair_apply_left 1 _ _ hc (ix2 n 0) rfl (ix2 n 0) fun b => match b with | ⟨0, _⟩ => rfl | ⟨1, _⟩ => rfl).trans (column hb T1 n)

theorem pairs_snd (n : Fin M) : pairs T1 T2 hb hc (ix2 n 1) = T2 (ix1 n) :=
  (concatenate_pair_apply_right 1 _ _ hc (ix2 n 1) rfl rfl (ix2 n 0) (fun b => match b with | ⟨0, _⟩ => fun _ => rfl | ⟨1, _⟩ => fun h => absurd rfl h) rfl).trans (column hb T2 n)

theorem word_toInt {x : BitVec 32} (h : x.toNat < 64) : x.toInt = x.toNat := by
  rw [BitVec.toInt_eq_toNat_cond, if_pos (by omega)]

/-! ## The scatter -/

/-- An update per matrix and pair, written at the entry of that matrix that the pair names. -/
def sDims (wf : ScatterDims.WF ⟨3, ![N, 64, 64]⟩ ⟨2, ![M, 2]⟩ ⟨2, ![N, M]⟩ [0] [1, 2] [1, 2] 1) : ScatterDims ⟨3, ![N, 64, 64]⟩ ⟨2, ![M, 2]⟩ ⟨2, ![N, M]⟩ where
  updateWindowDims := [0]
  insertedWindowDims := [1, 2]
  scatterDimsToOperandDims := [1, 2]
  indexVectorDim := 1
  wf := wf

section Scatter
variable (wf : ScatterDims.WF ⟨3, ![N, 64, 64]⟩ ⟨2, ![M, 2]⟩ ⟨2, ![N, M]⟩ [0] [1, 2] [1, 2] 1)

/-- Where the update of matrix `b` and pair `n` lands. -/
theorem lands (idx : IVec ⟨2, ![M, 2]⟩ 32) (b : Fin N) (n : Fin M) (ι : (⟨3, ![N, 64, 64]⟩ : Shape).Idx) :
    (sDims wf).resultIdx? (ix2 b n) idx = some ι ↔ b.val = (ι 0).val ∧ (idx (ix2 n 0)).toInt = ((ι 1).val : ℤ) ∧ (idx (ix2 n 1)).toInt = ((ι 2).val : ℤ) := by
  have e0 : (sDims wf).start (ix2 b n) idx 0 + ((sDims wf).window (ix2 b n) 0 : ℤ) = (b.val : ℤ) := by
    show 0 + (b.val : ℤ) = b.val
    omega
  have e1 : (sDims wf).start (ix2 b n) idx 1 + ((sDims wf).window (ix2 b n) 1 : ℤ) = (idx (ix2 n 0)).toInt := by
    show (idx _).toInt + 0 = _
    rw [Int.add_zero]
    exact congrArg (fun i => (idx i).toInt) (funext fun a => match a with | ⟨0, _⟩ => rfl | ⟨1, _⟩ => rfl)
  have e2 : (sDims wf).start (ix2 b n) idx 2 + ((sDims wf).window (ix2 b n) 2 : ℤ) = (idx (ix2 n 1)).toInt := by
    show (idx _).toInt + 0 = _
    rw [Int.add_zero]
    exact congrArg (fun i => (idx i).toInt) (funext fun a => match a with | ⟨0, _⟩ => rfl | ⟨1, _⟩ => rfl)
  rw [resultIdx?_eq_some]
  constructor
  · intro h
    exact ⟨by have := e0.symm.trans (h 0); omega, e1.symm.trans (h 1), e2.symm.trans (h 2)⟩
  · intro h a
    match a with
    | ⟨0, _⟩ => exact e0.trans (congrArg (fun v : ℕ => (v : ℤ)) h.1)
    | ⟨1, _⟩ => exact e1.trans h.2.1
    | ⟨2, _⟩ => exact e2.trans h.2.2

variable (h1 : ∀ n : Fin M, (T1 (ix1 n)).toNat < 64) (h2 : ∀ n : Fin M, (T2 (ix1 n)).toNat < 64)

include h1 h2 in
theorem lands_pairs (b : Fin N) (n : Fin M) (ι : (⟨3, ![N, 64, 64]⟩ : Shape).Idx) :
    (sDims wf).resultIdx? (ix2 b n) (pairs T1 T2 hb hc) = some ι ↔ b.val = (ι 0).val ∧ (T1 (ix1 n)).toNat = (ι 1).val ∧ (T2 (ix1 n)).toNat = (ι 2).val := by
  rw [lands, pairs_fst, pairs_snd, word_toInt (h1 n), word_toInt (h2 n)]
  omega

include h1 h2 in
/-- An entry that pair `n` names, and no other, takes update `n`. -/
theorem scatter_at_pair (x : (⟨3, ![N, 64, 64]⟩ : Shape).Idx → α) (u : (⟨2, ![N, M]⟩ : Shape).Idx → α) (ι : (⟨3, ![N, 64, 64]⟩ : Shape).Idx) (n : Fin M)
    (hn : (T1 (ix1 n)).toNat = (ι 1).val ∧ (T2 (ix1 n)).toNat = (ι 2).val)
    (hu : ∀ n' : Fin M, (T1 (ix1 n')).toNat = (ι 1).val → (T2 (ix1 n')).toNat = (ι 2).val → n' = n) :
    Host.scatter (sDims wf) (fun _ b => b) x (pairs T1 T2 hb hc) u ι = u (ix2 (n0 := N) (ι 0) n) := by
  refine scatter_set_hit (sDims wf) x _ u ι _ (fun k hk => ?_) (ix2 (n0 := N) (ι 0) n) ((lands_pairs T1 T2 hb hc wf h1 h2 _ _ _).2 ⟨rfl, hn⟩)
  rw [eq_ix2 k] at hk ⊢
  have h := (lands_pairs T1 T2 hb hc wf h1 h2 _ _ _).1 hk
  rw [hu _ h.2.1 h.2.2]
  exact congrArg (fun b : Fin N => u (ix2 b n)) (Fin.ext h.1)

include h1 h2 in
/-- An entry that no pair names is left. -/
theorem scatter_at_none (x : (⟨3, ![N, 64, 64]⟩ : Shape).Idx → α) (u : (⟨2, ![N, M]⟩ : Shape).Idx → α) (ι : (⟨3, ![N, 64, 64]⟩ : Shape).Idx)
    (hu : ∀ n' : Fin M, ¬ ((T1 (ix1 n')).toNat = (ι 1).val ∧ (T2 (ix1 n')).toNat = (ι 2).val)) :
    Host.scatter (sDims wf) (fun _ b => b) x (pairs T1 T2 hb hc) u ι = x ι := by
  refine scatter_set_miss (sDims wf) x _ u ι fun k hk => ?_
  rw [eq_ix2 k] at hk
  exact hu _ ((lands_pairs T1 T2 hb hc wf h1 h2 _ _ _).1 hk).2

end Scatter

/-! ## The gather -/

/-- An entry per matrix and pair, read where the pair names it. -/
def gDims (wf : GatherDims.WF ⟨3, ![N, 64, 64]⟩ ⟨2, ![M, 2]⟩ ⟨2, ![N, M]⟩ [0] [1, 2] [] [1, 2] [] 1 ![N, 1, 1]) : GatherDims ⟨3, ![N, 64, 64]⟩ ⟨2, ![M, 2]⟩ ⟨2, ![N, M]⟩ where
  offsetDims := [0]
  collapsedSliceDims := [1, 2]
  operandBatchingDims := []
  startIndicesBatchingDims := []
  startIndexMap := [1, 2]
  indexVectorDim := 1
  sliceSizes := ![N, 1, 1]
  wf := wf

theorem gather_at_pair (wf : GatherDims.WF ⟨3, ![N, 64, 64]⟩ ⟨2, ![M, 2]⟩ ⟨2, ![N, M]⟩ [0] [1, 2] [] [1, 2] [] 1 ![N, 1, 1])
    (x : (⟨3, ![N, 64, 64]⟩ : Shape).Idx → α) (b : Fin N) (n : Fin M) (i j : Fin 64) (hi : (T1 (ix1 n)).toNat = i.val) (hj : (T2 (ix1 n)).toNat = j.val) :
    Host.gather (gDims wf) x (pairs T1 T2 hb hc) (ix2 b n) = x (ix3 b i j) := by
  have s1 : (gDims wf).start (ix2 b n) (pairs T1 T2 hb hc) 1 = i.val := by
    show min (pairs T1 T2 hb hc _).toInt.toNat (64 - 1) = _
    rw [show (gDims wf).siIdx (ix2 b n) _ = ix2 n 0 from funext fun a => match a with | ⟨0, _⟩ => rfl | ⟨1, _⟩ => rfl, pairs_fst, word_toInt (by omega)]
    omega
  have s2 : (gDims wf).start (ix2 b n) (pairs T1 T2 hb hc) 2 = j.val := by
    show min (pairs T1 T2 hb hc _).toInt.toNat (64 - 1) = _
    rw [show (gDims wf).siIdx (ix2 b n) _ = ix2 n 1 from funext fun a => match a with | ⟨0, _⟩ => rfl | ⟨1, _⟩ => rfl, pairs_snd, word_toInt (by omega)]
    omega
  refine congrArg x (funext fun a => Fin.ext ?_)
  match a with
  | ⟨0, _⟩ =>
    show 0 + 0 + b.val = b.val
    omega
  | ⟨1, _⟩ => exact s1
  | ⟨2, _⟩ => exact s2

end Cert.Proof

end
-- ==== Proof.RefVal.lean ====
/-
  The reference's results: its first is the local values, its second the triangle with its diagonal exponentiated.
-/
module

public import proofs.«01_k».proof.Proof.Pick
public import proofs.«01_k».proof.Proof.Gen.ReferenceIdeal.Run
public import Idealize.ShloMosaic.PureOps.Ideal

@[expose] public section

set_option maxRecDepth 16384

noncomputable section

namespace Cert.Proof.R

open Cert.ReferenceIdeal Cert.ReferenceIdeal.Gen Idealize.ShloMosaic Idealize.ShloMosaic.TcCoe Idealize.ShloMosaic.ValueIdx Idealize.SL.Sem Cert.Proof

/-! ## The tables -/

abbrev rows : S2080.Idx → BitVec 32 := fun i => lit0 (S2080.rowMajor i)
abbrev cols : S2080.Idx → BitVec 32 := fun i => lit1 (S2080.rowMajor i)
abbrev diag : S64.Idx → BitVec 32 := iotaInDim S64 32 0

theorem tables_ok : TblOK rows cols := by
  unfold TblOK
  decide +kernel

theorem rows_lt (n : Fin 2080) : (rows (ix1 n)).toNat < 64 := (tables_ok n).2.1
theorem cols_lt (n : Fin 2080) : (cols (ix1 n)).toNat < 64 := lt_of_le_of_lt (tables_ok n).1 (rows_lt n)

theorem diag_toNat (n : Fin 64) : (diag (ix1 n)).toNat = n.val := by
  show (BitVec.ofNat 32 n.val).toNat = n.val
  rw [BitVec.toNat_ofNat]
  have := n.isLt
  omega

theorem diag_lt (n : Fin 64) : (diag (ix1 n)).toNat < 64 := by
  rw [diag_toNat]
  exact n.isLt

/-- A table of small words with jnp's wrap of an index around it. -/
theorem wrap_of (M : ℕ) (T : IVec ⟨1, ![M]⟩ 32) (h : ∀ n : Fin M, (T (ix1 n)).toNat < 64) (hb : (⟨0, ![]⟩ : Shape).BroadcastsInDim ⟨1, ![M]⟩ ![]) :
    select (cmpi .slt T (broadcastInDim ⟨1, ![M]⟩ ![] hb (constantI ⟨0, ![]⟩ 32 0#32))) (addi T (broadcastInDim ⟨1, ![M]⟩ ![] hb (constantI ⟨0, ![]⟩ 32 64#32))) T = T :=
  wrap_tbl T (fun j => by rw [eq_ix1 j]; exact h _) hb

/-! ## The values -/

variable (x : S16384x2144.Idx → Ideal .f32)

/-- The triangle as it is placed, before its diagonal is exponentiated. -/
def placed : S16384x64x64.Idx → Ideal .f32 :=
  Host.scatter scatter_S16384x64x64_S2080x2_S16384x2080_0_12_12_1 (fun _ b => b) (broadcastInDim S16384x64x64 ![] bcast_S_S16384x64x64 (constant S_ .f32 0x00000000#32))
    (pairs rows cols bcast_S2080_S2080x1_0 concatenates_S2080x1_S2080x1_S2080x2_d1) (extractStridedSlice S16384x2080 ![0, 64] x slices_S16384x2144_S16384x2080_0_64)

theorem slice_at (b : Fin 16384) (n : Fin 2080) : extractStridedSlice S16384x2080 ![0, 64] x slices_S16384x2144_S16384x2080_0_64 (ix2 b n) = rowAt x b (64 + n.val) :=
  extractStridedSlice_apply ![0, 64] x _ _ _ fun a => match a with
    | ⟨0, _⟩ => by show b.val = 0 + b.val; omega
    | ⟨1, _⟩ => by show (64 + n.val) % 2144 = 64 + n.val; have := n.isLt; omega

theorem placed_low (j : S16384x64x64.Idx) (h : (j 2).val ≤ (j 1).val) : placed x j = rowAt x (j 0) (64 + tri (j 1).val + (j 2).val) := by
  have hlt := tri_lt (j 1).isLt h
  have name : ∀ n : Fin 2080, (rows (ix1 n)).toNat = (j 1).val → (cols (ix1 n)).toNat = (j 2).val → n.val = tri (j 1).val + (j 2).val := fun n h1 h2 => by
    rw [(tables_ok n).2.2, h1, h2]
  have hn := tri_inj (tables_ok ⟨_, hlt⟩).1 h (tables_ok ⟨_, hlt⟩).2.2.symm
  refine (scatter_at_pair rows cols _ _ _ rows_lt cols_lt _ _ j ⟨_, hlt⟩ hn fun n' h1 h2 => Fin.ext (name n' h1 h2)).trans ?_
  refine (slice_at x (j 0) ⟨_, hlt⟩).trans ?_
  rw [Nat.add_assoc]

theorem placed_high (j : S16384x64x64.Idx) (h : (j 1).val < (j 2).val) : placed x j = zer :=
  scatter_at_none rows cols _ _ _ rows_lt cols_lt _ _ j fun n' hn => by
    have := (tables_ok n').1
    omega

theorem results_fst : extractStridedSlice S16384x64 ![0, 0] x slices_S16384x2144_S16384x64_0_0 = locVal x :=
  funext fun j => extractStridedSlice_apply ![0, 0] x _ _ _ fun a => match a with
    | ⟨0, _⟩ => by show (j 0).val = 0 + (j 0).val; omega
    | ⟨1, _⟩ => by
      show (j 1).val % 2144 = 0 + (j 1).val
      have : (j 1).val < 64 := (j 1).isLt
      omega

theorem hostExp (y : S16384x64.Idx → Ideal .f32) (i : S16384x64.Idx) : Host.exp y i = FloatOps.exp (y i) := rfl

theorem placed_diag (b : Fin 16384) (i k : Fin 64) (h : k.val = i.val) :
    Host.gather gather_S16384x64x64_S64x2_S16384x64_0_12_n_n_12_1_1638411 (placed x) (pairs diag diag bcast_S64_S64x1_0 concatenates_S64x1_S64x1_S64x2_d1) (ix2 b i)
      = rowAt x b (64 + tri i.val + k.val) :=
  (gather_at_pair diag diag _ _ _ (placed x) b i i k (diag_toNat i) ((diag_toNat i).trans h.symm)).trans (placed_low x (ix3 b i k) (le_of_eq h))

theorem results_snd : Host.scatter scatter_S16384x64x64_S64x2_S16384x64_0_12_12_1 (fun _ b => b) (placed x)
    (pairs diag diag bcast_S64_S64x1_0 concatenates_S64x1_S64x1_S64x2_d1)
    (Host.exp (Host.gather gather_S16384x64x64_S64x2_S16384x64_0_12_n_n_12_1_1638411 (placed x) (pairs diag diag bcast_S64_S64x1_0 concatenates_S64x1_S64x1_S64x2_d1))) = outVal x := by
  funext j
  have hj : (j 1).val < 64 := (j 1).isLt
  unfold outVal
  by_cases hd : (j 2).val = (j 1).val
  · rw [if_neg (by omega), if_pos hd]
    refine (scatter_at_pair diag diag _ _ _ diag_lt diag_lt _ _ j ⟨_, hj⟩ ⟨diag_toNat _, (diag_toNat _).trans hd.symm⟩
      fun n' h1 _ => Fin.ext ((diag_toNat n').symm.trans h1)).trans ?_
    rw [hostExp]
    exact congrArg FloatOps.exp (placed_diag x (j 0) (j 1) (j 2) hd)
  · refine (scatter_at_none diag diag _ _ _ diag_lt diag_lt _ _ j fun n' hn => ?_).trans ?_
    · rw [diag_toNat] at hn
      omega
    · by_cases hl : (j 2).val < (j 1).val
      · rw [if_pos hl]
        exact placed_low x j (le_of_lt hl)
      · rw [if_neg hl, if_neg hd]
        exact placed_high x j (by omega)

/-! ## The run -/

theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = locVal (F := Ideal) (N := 16384) (m ((c.tc : Thread nD τ).loc main_arg0))
      ∧ r.2.mem ((c.tc : Thread nD τ).loc main_v46) = outVal (F := Ideal) (N := 16384) (m ((c.tc : Thread nD τ).loc main_arg0))
      ∧ r.2.mem ((c.tc : Thread nD τ).loc main_arg0) = m ((c.tc : Thread nD τ).loc main_arg0) := by
  have h := Cert.ReferenceIdeal.Value.run (F := Ideal) m ρ
  rw [wrap_of 2080 rows rows_lt, wrap_of 2080 cols cols_lt, wrap_of 64 diag diag_lt] at h
  refine (θ_run (defs (F := Ideal)) _ _).mono (fun r h c => ?_) h
  exact ⟨(h c).1.trans (results_fst _), (h c).2.1.trans (results_snd _), (h c).2.2⟩

end Cert.Proof.R

end
-- ==== Proof.lean ====
module

public import proofs.«01_k».proof.Defs
public import proofs.«01_k».proof.Proof.Run
public import proofs.«01_k».proof.Proof.IdealRun
public import proofs.«01_k».proof.Proof.RefVal
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ =>
  (θ_run (Cert.Kernel.defs (F := Bits)) _ _).mono (fun _ h => ⟨fun c => (h.1 c).1, h.2⟩) (Cert.Proof.K.run_main (F := Bits) m g)

theorem frame_ideal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (Cert.Proof.KI.run_main (F := Ideal) m g)

/-- The reference declares no semaphore, so none is left raised. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2, sem_eq_zero_of_no_sems (by decide) r.2⟩) (Cert.Proof.R.run_main m g)

theorem algebraic : Cert.algebraic_KernelIdeal_ReferenceIdeal (hKernelIdeal := Cert.KernelIdeal.Gen.facts) (hReferenceIdeal := Cert.ReferenceIdeal.Gen.facts) := fun m g m' g' _ hx =>
  ⟨fun c => locVal (F := Ideal) (N := 16384) (Cert.Proof.KI.arr m c), fun c => outVal (F := Ideal) (N := 16384) (Cert.Proof.KI.arr m c),
    (θ_run (Cert.KernelIdeal.defs (F := Ideal)) _ _).mono (fun _ h c => ⟨(h.1 c).2.1, (h.1 c).2.2, (h.1 c).1⟩) (Cert.Proof.KI.run_main (F := Ideal) m g),
    (θ_run (Cert.ReferenceIdeal.defs (F := Ideal)) _ _).mono (fun _ h c =>
      ⟨(h c).1.trans (congrArg (locVal (F := Ideal) (N := 16384)) (hx c)), (h c).2.1.trans (congrArg (outVal (F := Ideal) (N := 16384)) (hx c)), (h c).2.2⟩)
      (Cert.Proof.R.run_main m' g')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
